-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_v30) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S3x640x10240 : Shape := ⟨3, ![3, 640, 10240]⟩
abbrev S1 : Shape := ⟨1, ![1]⟩
abbrev S1x3x640 : Shape := ⟨3, ![1, 3, 640]⟩
abbrev S10240 : Shape := ⟨1, ![10240]⟩
abbrev S_ : Shape := ⟨0, ![]⟩

class Facts : Prop where
  bitsLt_bf16_f32 : FTy.bits .bf16 < FTy.bits .f32
  bcast_S_S3x640x10240 : S_.BroadcastsInDim S3x640x10240 (![] : Fin 0 → Fin S3x640x10240.rank)
  reducesTo_S3x640x10240_S_d0_1_2 : S3x640x10240.ReducesTo [0, 1, 2] S_
  h_S_ : 0 < S_.numel
  bcast_S_S1 : S_.BroadcastsInDim S1 (![] : Fin 0 → Fin S1.rank)
  reducesTo_S1_S_d0 : S1.ReducesTo [0] S_
  bcast_S_S1x3x640 : S_.BroadcastsInDim S1x3x640 (![] : Fin 0 → Fin S1x3x640.rank)
  reducesTo_S1x3x640_S_d0_1_2 : S1x3x640.ReducesTo [0, 1, 2] S_
  bcast_S_S10240 : S_.BroadcastsInDim S10240 (![] : Fin 0 → Fin S10240.rank)
  reducesTo_S10240_S_d0 : S10240.ReducesTo [0] S_

variable [Facts]

def fn_part2 {F : FTy → Type} [FloatOps F] (main_arg3 : FVec F S1x3x640 .f32) (main_v33 : IVec S_ 1) : IVec S_ 1 :=
  let main_cst_12 : FVec F S_ .f32 := constant S_ .f32 0x00000000#32
  let main_v34 : FVec F S1x3x640 .f32 := broadcastInDim S1x3x640 ![] bcast_S_S1x3x640 main_cst_12
  let main_v35 : IVec S1x3x640 1 := cmpf .oge main_arg3 main_v34
  let main_c_13 : IVec S_ 1 := constantI S_ 1 1#1
  let main_v36 : IVec S_ 1 := (fun x v => Host.reduce IntOp.andi x v reducesTo_S1x3x640_S_d0_1_2 h_S_) main_v35 main_c_13
  let main_v37 : IVec S_ 1 := andi main_v33 main_v36
  main_v37

def fn_part1 {F : FTy → Type} [FloatOps F] (main_arg1 : FVec F S1 .f32) (main_arg3 : FVec F S1x3x640 .f32) (main_arg4 : FVec F S10240 .f32) (main_arg5 : FVec F S10240 .f32) (main_v14 : IVec S_ 1) (main_v15 : FVec F S1x3x640 .f32) (main_v16 : FVec F S1x3x640 .f32) : IVec S_ 1 :=
  let main_v17 : IVec S1x3x640 1 := cmpf .ole main_v15 main_v16
  let main_c_5 : IVec S_ 1 := constantI S_ 1 1#1
  let main_v18 : IVec S_ 1 := (fun x v => Host.reduce IntOp.andi x v reducesTo_S1x3x640_S_d0_1_2 h_S_) main_v17 main_c_5
  let main_v19 : IVec S_ 1 := andi main_v14 main_v18
  let main_v20 : FVec F S10240 .f32 := Host.absf main_arg4
  let main_cst_6 : FVec F S_ .f32 := constant S_ .f32 0x58800000#32
  let main_v21 : FVec F S10240 .f32 := broadcastInDim S10240 ![] bcast_S_S10240 main_cst_6
  let main_v22 : IVec S10240 1 := cmpf .ole main_v20 main_v21
  let main_c_7 : IVec S_ 1 := constantI S_ 1 1#1
  let main_v23 : IVec S_ 1 := (fun x v => Host.reduce IntOp.andi x v reducesTo_S10240_S_d0 h_S_) main_v22 main_c_7
  let main_v24 : IVec S_ 1 := andi main_v19 main_v23
  let main_v25 : FVec F S10240 .f32 := Host.absf main_arg5
  let main_cst_8 : FVec F S_ .f32 := constant S_ .f32 0x58800000#32
  let main_v26 : FVec F S10240 .f32 := broadcastInDim S10240 ![] bcast_S_S10240 main_cst_8
  let main_v27 : IVec S10240 1 := cmpf .ole main_v25 main_v26
  let main_c_9 : IVec S_ 1 := constantI S_ 1 1#1
  let main_v28 : IVec S_ 1 := (fun x v => Host.reduce IntOp.andi x v reducesTo_S10240_S_d0 h_S_) main_v27 main_c_9
  let main_v29 : IVec S_ 1 := andi main_v24 main_v28
  let main_cst_10 : FVec F S_ .f32 := constant S_ .f32 0x00000000#32
  let main_v30 : FVec F S1 .f32 := broadcastInDim S1 ![] bcast_S_S1 main_cst_10
  let main_v31 : IVec S1 1 := cmpf .oge main_arg1 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v29 main_v32
  fn_part2 (F := F) main_arg3 main_v33

def fn {F : FTy → Type} [FloatOps F] (main_arg0 : FVec F S3x640x10240 .bf16) (main_arg1 : FVec F S1 .f32) (main_arg2 : FVec F S1x3x640 .f32) (main_arg3 : FVec F S1x3x640 .f32) (main_arg4 : FVec F S10240 .f32) (main_arg5 : FVec F S10240 .f32) : IVec S_ 1 :=
  let main_v0 : FVec F S3x640x10240 .f32 := (extf .f32 · bitsLt_bf16_f32) main_arg0
  let main_v1 : FVec F S3x640x10240 .f32 := Host.absf main_v0
  let main_cst : FVec F S_ .f32 := constant S_ .f32 0x58800000#32
  let main_v2 : FVec F S3x640x10240 .f32 := broadcastInDim S3x640x10240 ![] bcast_S_S3x640x10240 main_cst
  let main_v3 : IVec S3x640x10240 1 := cmpf .ole main_v1 main_v2
  let main_c : IVec S_ 1 := constantI S_ 1 1#1
  let main_v4 : IVec S_ 1 := (fun x v => Host.reduce IntOp.andi x v reducesTo_S3x640x10240_S_d0_1_2 h_S_) main_v3 main_c
  let main_v5 : FVec F S1 .f32 := Host.absf main_arg1
  let main_cst_0 : FVec F S_ .f32 := constant S_ .f32 0x58800000#32
  let main_v6 : FVec F S1 .f32 := broadcastInDim S1 ![] bcast_S_S1 main_cst_0
  let main_v7 : IVec S1 1 := cmpf .ole main_v5 main_v6
  let main_c_1 : IVec S_ 1 := constantI S_ 1 1#1
  let main_v8 : IVec S_ 1 := (fun x v => Host.reduce IntOp.andi x v reducesTo_S1_S_d0 h_S_) main_v7 main_c_1
  let main_v9 : IVec S_ 1 := andi main_v4 main_v8
  let main_v10 : FVec F S1x3x640 .f32 := Host.absf main_arg2
  let main_cst_2 : FVec F S_ .f32 := constant S_ .f32 0x58800000#32
  let main_v11 : FVec F S1x3x640 .f32 := broadcastInDim S1x3x640 ![] bcast_S_S1x3x640 main_cst_2
  let main_v12 : IVec S1x3x640 1 := cmpf .ole main_v10 main_v11
  let main_c_3 : IVec S_ 1 := constantI S_ 1 1#1
  let main_v13 : IVec S_ 1 := (fun x v => Host.reduce IntOp.andi x v reducesTo_S1x3x640_S_d0_1_2 h_S_) main_v12 main_c_3
  let main_v14 : IVec S_ 1 := andi main_v9 main_v13
  let main_v15 : FVec F S1x3x640 .f32 := Host.absf main_arg3
  let main_cst_4 : FVec F S_ .f32 := constant S_ .f32 0x58800000#32
  let main_v16 : FVec F S1x3x640 .f32 := broadcastInDim S1x3x640 ![] bcast_S_S1x3x640 main_cst_4
  fn_part1 (F := F) main_arg1 main_arg3 main_arg4 main_arg5 main_v14 main_v15 main_v16
-- ==== Kernel.lean ====
abbrev S3x640x10240 : Shape := ⟨3, ![3, 640, 10240]⟩
abbrev S1 : Shape := ⟨1, ![1]⟩
abbrev S1x3x640 : Shape := ⟨3, ![1, 3, 640]⟩
abbrev S10240 : Shape := ⟨1, ![10240]⟩
abbrev S1x10240 : Shape := ⟨2, ![1, 10240]⟩
abbrev S3x640x80 : Shape := ⟨3, ![3, 640, 80]⟩
abbrev S3x640 : Shape := ⟨2, ![3, 640]⟩
abbrev S1x128x10240 : Shape := ⟨3, ![1, 128, 10240]⟩
abbrev S1x128x80 : Shape := ⟨3, ![1, 128, 80]⟩
abbrev S128x10240 : Shape := ⟨2, ![128, 10240]⟩
abbrev S128x128 : Shape := ⟨2, ![128, 128]⟩
abbrev S2x128x1 : Shape := ⟨3, ![2, 128, 1]⟩
abbrev S16x10240 : Shape := ⟨2, ![16, 10240]⟩
abbrev S16x128 : Shape := ⟨2, ![16, 128]⟩
abbrev S1x128 : Shape := ⟨2, ![1, 128]⟩
abbrev S128 : Shape := ⟨1, ![128]⟩
abbrev S3x128 : Shape := ⟨2, ![3, 128]⟩
abbrev S1x3x128 : Shape := ⟨3, ![1, 3, 128]⟩
abbrev S128x1 : Shape := ⟨2, ![128, 1]⟩
abbrev S1x128x1 : Shape := ⟨3, ![1, 128, 1]⟩
abbrev S1x64x1 : Shape := ⟨3, ![1, 64, 1]⟩
abbrev S64x1 : Shape := ⟨2, ![64, 1]⟩
abbrev S1x64x128 : Shape := ⟨3, ![1, 64, 128]⟩
abbrev S64x128 : Shape := ⟨2, ![64, 128]⟩
abbrev S64 : Shape := ⟨1, ![64]⟩
abbrev S128x80 : Shape := ⟨2, ![128, 80]⟩
abbrev S128x256 : Shape := ⟨2, ![128, 256]⟩
abbrev S1x128x256 : Shape := ⟨3, ![1, 128, 256]⟩

abbrev nBuf : Space → Nat
  | .hbm => 12
  | .vmem => 16
  | .smem => 1
  | _ => 0

abbrev bufTy : (tb : Table) → Fin (tcTables nBuf tb) → BufTy
  | .hbm, ⟨0, _⟩ => ⟨S3x640x10240, .bf16⟩
  | .hbm, ⟨1, _⟩ => ⟨S1, .f32⟩
  | .hbm, ⟨2, _⟩ => ⟨S1x3x640, .f32⟩
  | .hbm, ⟨3, _⟩ => ⟨S1x3x640, .f32⟩
  | .hbm, ⟨4, _⟩ => ⟨S10240, .f32⟩
  | .hbm, ⟨5, _⟩ => ⟨S10240, .f32⟩
  | .hbm, ⟨6, _⟩ => ⟨S1x10240, .f32⟩
  | .hbm, ⟨7, _⟩ => ⟨S1x10240, .f32⟩
  | .hbm, ⟨8, _⟩ => ⟨S3x640x10240, .fp8e4m3⟩
  | .hbm, ⟨9, _⟩ => ⟨S3x640x80, .f32⟩
  | .hbm, ⟨10, _⟩ => ⟨S3x640, .f32⟩
  | .hbm, ⟨11, _⟩ => ⟨S3x640, .f32⟩
  | .local _ .vmem, ⟨0, _⟩ => ⟨S1x128x10240, .bf16⟩
  | .local _ .vmem, ⟨1, _⟩ => ⟨S1x128x10240, .bf16⟩
  | .local _ .vmem, ⟨2, _⟩ => ⟨S1x3x640, .f32⟩
  | .local _ .vmem, ⟨3, _⟩ => ⟨S1x3x640, .f32⟩
  | .local _ .vmem, ⟨4, _⟩ => ⟨S1x10240, .f32⟩
  | .local _ .vmem, ⟨5, _⟩ => ⟨S1x10240, .f32⟩
  | .local _ .vmem, ⟨6, _⟩ => ⟨S1x128x10240, .fp8e4m3⟩
  | .local _ .vmem, ⟨7, _⟩ => ⟨S1x128x10240, .fp8e4m3⟩
  | .local _ .vmem, ⟨8, _⟩ => ⟨S1x128x80, .f32⟩
  | .local _ .vmem, ⟨9, _⟩ => ⟨S1x128x80, .f32⟩
  | .local _ .vmem, ⟨10, _⟩ => ⟨S3x640, .f32⟩
  | .local _ .vmem, ⟨11, _⟩ => ⟨S3x640, .f32⟩
  | .local _ .vmem, ⟨12, _⟩ => ⟨S128x10240, .f32⟩
  | .local _ .vmem, ⟨13, _⟩ => ⟨S128x128, .f32⟩
  | .local _ .vmem, ⟨14, _⟩ => ⟨S128x10240, .bf16⟩
  | .local _ .vmem, ⟨15, _⟩ => ⟨S2x128x1, .f32⟩
  | .local _ .smem, ⟨0, _⟩ => ⟨S1, .f32⟩
  | _, _ => ⟨S3x640x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨2, ![3, 5], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  v0
def k0_off1 (i : grid0.Coords) : Fin 3 → Nat :=
  let c0_10 : Index := 0#32
  let c0_11 : Index := 0#32
  let arg1 : BitVec 32 := BitVec.ofNat 32 (i 1).val
  let c128_i32 : BitVec 32 := 128#32
  let v0 : BitVec 32 := Scalar.muli arg1 c128_i32
  let v1 : BitVec 32 := v0
  let v28 : Index := Scalar.indexCast v1
  ![0, 0, v28.toNat]
def k0_off2 (i : grid0.Coords) : Fin 2 → Nat :=
  let c0_21 : Index := 0#32
  let arg1 : BitVec 32 := BitVec.ofNat 32 (i 1).val
  let c128_i32 : BitVec 32 := 128#32
  let v0 : BitVec 32 := Scalar.muli arg1 c128_i32
  let v1 : BitVec 32 := v0
  let v60 : Index := Scalar.indexCast v1
  ![0, v60.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x10240 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x3x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x3x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x10240 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x10240 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x10240 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x80 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S3x640 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x640 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== ReferenceIdeal.lean ====
abbrev S3x640x10240 : Shape := ⟨3, ![3, 640, 10240]⟩
abbrev S1 : Shape := ⟨1, ![1]⟩
abbrev S1x3x640 : Shape := ⟨3, ![1, 3, 640]⟩
abbrev S10240 : Shape := ⟨1, ![10240]⟩
abbrev S3x640x80x128 : Shape := ⟨4, ![3, 640, 80, 128]⟩
abbrev S_ : Shape := ⟨0, ![]⟩
abbrev S3x640 : Shape := ⟨2, ![3, 640]⟩
abbrev S3x640x1x1 : Shape := ⟨4, ![3, 640, 1, 1]⟩
abbrev S80x128 : Shape := ⟨2, ![80, 128]⟩
abbrev S1x1x80x128 : Shape := ⟨4, ![1, 1, 80, 128]⟩
abbrev S3x640x80 : Shape := ⟨3, ![3, 640, 80]⟩
abbrev S253 : Shape := ⟨1, ![253]⟩
abbrev S3x640x80x1 : Shape := ⟨4, ![3, 640, 80, 1]⟩
abbrev S1x1x1x253 : Shape := ⟨4, ![1, 1, 1, 253]⟩
abbrev S3x640x80x253 : Shape := ⟨4, ![3, 640, 80, 253]⟩

abbrev nBuf : Space → Nat
  | .hbm => 106
  | .vmem => 0
  | .smem => 0
  | _ => 0

abbrev bufTy : (tb : Table) → Fin (tcTables nBuf tb) → BufTy
  | .hbm, ⟨0, _⟩ => ⟨S3x640x10240, .bf16⟩
  | .hbm, ⟨1, _⟩ => ⟨S1, .f32⟩
  | .hbm, ⟨2, _⟩ => ⟨S1x3x640, .f32⟩
  | .hbm, ⟨3, _⟩ => ⟨S1x3x640, .f32⟩
  | .hbm, ⟨4, _⟩ => ⟨S10240, .f32⟩
  | .hbm, ⟨5, _⟩ => ⟨S10240, .f32⟩
  | .hbm, ⟨6, _⟩ => ⟨S3x640x80x128, .bf16⟩
  | .hbm, ⟨7, _⟩ => ⟨S3x640x80x128, .f32⟩
  | .hbm, ⟨8, _⟩ => ⟨S_, .f32⟩
  | .hbm, ⟨9, _⟩ => ⟨S3x640, .f32⟩
  | .hbm, ⟨10, _⟩ => ⟨S_, .f32⟩
  | .hbm, ⟨11, _⟩ => ⟨S3x640, .f32⟩
  | .hbm, ⟨12, _⟩ => ⟨S3x640, .f32⟩
  | .hbm, ⟨13, _⟩ => ⟨S3x640x1x1, .f32⟩
  | .hbm, ⟨14, _⟩ => ⟨S3x640x80x128, .f32⟩
  | .hbm, ⟨15, _⟩ => ⟨S3x640x80x128, .f32⟩
  | .hbm, ⟨16, _⟩ => ⟨S3x640x80x128, .f32⟩
  | .hbm, ⟨17, _⟩ => ⟨S_, .f32⟩
  | .hbm, ⟨18, _⟩ => ⟨S3x640, .f32⟩
  | .hbm, ⟨19, _⟩ => ⟨S_, .f32⟩
  | .hbm, ⟨20, _⟩ => ⟨S3x640, .f32⟩
  | .hbm, ⟨21, _⟩ => ⟨S3x640, .f32⟩
  | .hbm, ⟨22, _⟩ => ⟨S_, .f32⟩
  | .hbm, ⟨23, _⟩ => ⟨S_, .f32⟩
  | .hbm, ⟨24, _⟩ => ⟨S3x640, .f32⟩
  | .hbm, ⟨25, _⟩ => ⟨S_, .f32⟩
  | .hbm, ⟨26, _⟩ => ⟨S3x640, .f32⟩
  | .hbm, ⟨27, _⟩ => ⟨S3x640, .f32⟩
  | .hbm, ⟨28, _⟩ => ⟨S3x640, .f32⟩
  | .hbm, ⟨29, _⟩ => ⟨S3x640, .f32⟩
  | .hbm, ⟨30, _⟩ => ⟨S3x640, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S3x640, .f32⟩
  | .hbm, ⟨35, _⟩ => ⟨S3x640, .f32⟩
  | .hbm, ⟨36, _⟩ => ⟨S3x640, .f32⟩
  | .hbm, ⟨37, _⟩ => ⟨S3x640, .f32⟩
  | .hbm, ⟨38, _⟩ => ⟨S3x640, .f32⟩
  | .hbm, ⟨39, _⟩ => ⟨S_, .f32⟩
  | .hbm, ⟨40, _⟩ => ⟨S3x640, .f32⟩
  | .hbm, ⟨41, _⟩ => ⟨S3x640, .f32⟩
  | .hbm, ⟨42, _⟩ => ⟨S3x640, .f32⟩
  | .hbm, ⟨43, _⟩ => ⟨S80x128, .f32⟩
  | .hbm, ⟨44, _⟩ => ⟨S80x128, .f32⟩
  | .hbm, ⟨45, _⟩ => ⟨S3x640x1x1, .f32⟩
  | .hbm, ⟨46, _⟩ => ⟨S3x640x80x128, .f32⟩
  | .hbm, ⟨47, _⟩ => ⟨S3x640x80x128, .f32⟩
  | .hbm, ⟨48, _⟩ => ⟨S3x640x1x1, .f32⟩
  | .hbm, ⟨49, _⟩ => ⟨S3x640x80x128, .f32⟩
  | .hbm, ⟨50, _⟩ => ⟨S3x640x80x128, .f32⟩
  | .hbm, ⟨51, _⟩ => ⟨S1x1x80x128, .f32⟩
  | .hbm, ⟨52, _⟩ => ⟨S3x640x80x128, .f32⟩
  | .hbm, ⟨53, _⟩ => ⟨S3x640x80x128, .f32⟩
  | .hbm, ⟨54, _⟩ => ⟨S1x1x80x128, .f32⟩
  | .hbm, ⟨55, _⟩ => ⟨S3x640x80x128, .f32⟩
  | .hbm, ⟨56, _⟩ => ⟨S3x640x80x128, .f32⟩
  | .hbm, ⟨57, _⟩ => ⟨S3x640x80x128, .f32⟩
  | .hbm, ⟨58, _⟩ => ⟨S_, .f32⟩
  | .hbm, ⟨59, _⟩ => ⟨S3x640x80, .f32⟩
  | .hbm, ⟨60, _⟩ => ⟨S_, .f32⟩
  | .hbm, ⟨61, _⟩ => ⟨S3x640x80, .f32⟩
  | .hbm, ⟨62, _⟩ => ⟨S3x640x80, .f32⟩
  | .hbm, ⟨63, _⟩ => ⟨S_, .f32⟩
  | .hbm, ⟨64, _⟩ => ⟨S253, .f32⟩
  | .hbm, ⟨65, _⟩ => ⟨S253, .i32⟩
  | .hbm, ⟨66, _⟩ => ⟨S_, .i32⟩
  | .hbm, ⟨67, _⟩ => ⟨S253, .i32⟩
  | .hbm, ⟨68, _⟩ => ⟨S253, .i32⟩
  | .hbm, ⟨69, _⟩ => ⟨S253, .f32⟩
  | .hbm, ⟨70, _⟩ => ⟨S253, .f32⟩
  | .hbm, ⟨71, _⟩ => ⟨S3x640x80x1, .f32⟩
  | .hbm, ⟨72, _⟩ => ⟨S1x1x1x253, .f32⟩
  | .hbm, ⟨73, _⟩ => ⟨S3x640x80x253, .f32⟩
  | .hbm, ⟨74, _⟩ => ⟨S3x640x80x253, .f32⟩
  | .hbm, ⟨75, _⟩ => ⟨S3x640x80x253, .i1⟩
  | .hbm, ⟨76, _⟩ => ⟨S_, .f32⟩
  | .hbm, ⟨77, _⟩ => ⟨S_, .f32⟩
  | .hbm, ⟨78, _⟩ => ⟨S3x640x80x253, .f32⟩
  | .hbm, ⟨79, _⟩ => ⟨S3x640x80x253, .f32⟩
  | .hbm, ⟨80, _⟩ => ⟨S3x640x80x253, .f32⟩
  | .hbm, ⟨81, _⟩ => ⟨S_, .f32⟩
  | .hbm, ⟨82, _⟩ => ⟨S3x640x80, .f32⟩
  | .hbm, ⟨83, _⟩ => ⟨S_, .f32⟩
  | .hbm, ⟨84, _⟩ => ⟨S3x640x80, .f32⟩
  | .hbm, ⟨85, _⟩ => ⟨S3x640x80, .i1⟩
  | .hbm, ⟨86, _⟩ => ⟨S_, .f32⟩
  | .hbm, ⟨87, _⟩ => ⟨S_, .f32⟩
  | .hbm, ⟨88, _⟩ => ⟨S3x640x80, .f32⟩
  | .hbm, ⟨89, _⟩ => ⟨S3x640x80, .f32⟩
  | .hbm, ⟨90, _⟩ => ⟨S_, .f32⟩
  | .hbm, ⟨91, _⟩ => ⟨S3x640x80, .f32⟩
  | .hbm, ⟨92, _⟩ => ⟨S3x640x80, .f32⟩
  | .hbm, ⟨93, _⟩ => ⟨S3x640x80x1, .f32⟩
  | .hbm, ⟨94, _⟩ => ⟨S3x640x80x128, .f32⟩
  | .hbm, ⟨95, _⟩ => ⟨S3x640x80x128, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S3x640x80x128, .f32⟩
  | .hbm, ⟨100, _⟩ => ⟨S3x640x80x128, .f32⟩
  | .hbm, ⟨101, _⟩ => ⟨S_, .f32⟩
  | .hbm, ⟨102, _⟩ => ⟨S3x640x80x128, .f32⟩
  | .hbm, ⟨103, _⟩ => ⟨S3x640x80x128, .f32⟩
  | .hbm, ⟨104, _⟩ => ⟨S3x640x80x128, .fp8e4m3⟩
  | .hbm, ⟨105, _⟩ => ⟨S3x640x10240, .fp8e4m3⟩
  | _, _ => ⟨S3x640x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_5 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_c : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_8 : Ref sig .tc := ⟨.hbm, 76, rfl⟩
abbrev main_call0_v0 : Ref sig .tc := ⟨.hbm, 77, rfl⟩
abbrev main_call0_v1 : Ref sig .tc := ⟨.hbm, 78, rfl⟩
abbrev main_call0_v2 : Ref sig .tc := ⟨.hbm, 79, rfl⟩
abbrev main_v60 : Ref sig .tc := ⟨.hbm, 80, rfl⟩
abbrev main_cst_9 : Ref sig .tc := ⟨.hbm, 81, rfl⟩
abbrev main_v61 : Ref sig .tc := ⟨.hbm, 82, rfl⟩
abbrev main_cst_10 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_call1_v0 : Ref sig .tc := ⟨.hbm, 87, rfl⟩
abbrev main_call1_v1 : Ref sig .tc := ⟨.hbm, 88, rfl⟩
abbrev main_v64 : Ref sig .tc := ⟨.hbm, 89, rfl⟩
abbrev main_cst_12 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_13 : Ref sig .tc := ⟨.hbm, 96, rfl⟩
abbrev main_cst_14 : Ref sig .tc := ⟨.hbm, 97, rfl⟩
abbrev main_call2_v0 : Ref sig .tc := ⟨.hbm, 98, rfl⟩
abbrev main_call2_v1 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩

abbrev nD : Nat := 1
abbrev τ : Topo := Topo.v7x

variable {F : FTy → Type} [FloatOps F]
-- ==== Proof.Pieces.lean ====
/-
  The stores of one grid point as lists built by recursion: the 160 blocks of the normalised tile, the 160 columns of its
  block maxima, the 40 pieces of the codes and the 80 blocks of the expansion matrix.  The generated run lists them one by
  one; here they are the same lists, indexed by the store's number, so that one proof reads them all back.
-/
module

public import proofs.«01_k».proof.Proof.Gen.KernelIdeal.Frame.RunB
public import Idealize.ShloMosaic.Lib.Pipeline.Value

@[expose] public section

set_option maxRecDepth 65536

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-- Store `n` of the normalised tile: rows of half `n / 80`, columns of block `n % 80`. -/
def yPiece (X : S1x128x10240.Idx → Elt F .bf16) (M : S2x128x1.Idx → Elt F .f32) (G B : S1x10240.Idx → Elt F .f32)
    (n : ℕ) (h : n < 160) : View.Piece (Elt F) S128x10240 .f32 :=
  ⟨Rect.unit ![64 * (n / 80), 128 * (n % 80)] S64x128.size (by
      intro a; fin_cases a <;> simp [S64x128, S128x10240] <;> omega),
    k0_pay104
      (View.ld M (Rect.unit ![0, 64 * (n / 80), 0] S1x64x1.size (by intro a; fin_cases a <;> simp [S1x64x1, S2x128x1]; omega)))
      (View.ld M (Rect.unit ![1, 64 * (n / 80), 0] S1x64x1.size (by intro a; fin_cases a <;> simp [S1x64x1, S2x128x1]; omega)))
      (View.ld X (Rect.unit ![0, 64 * (n / 80), 128 * (n % 80)] S1x64x128.size (by
        intro a; fin_cases a <;> simp [S1x64x128, S1x128x10240] <;> omega)))
      (View.ld G (Rect.unit ![0, 128 * (n % 80)] S1x128.size (by intro a; fin_cases a <;> simp [S1x128, S1x10240]; omega)))
      (View.ld B (Rect.unit ![0, 128 * (n % 80)] S1x128.size (by intro a; fin_cases a <;> simp [S1x128, S1x10240]; omega)))⟩

/-- The first `n` stores of the normalised tile, last first. -/
def yList (X : S1x128x10240.Idx → Elt F .bf16) (M : S2x128x1.Idx → Elt F .f32) (G B : S1x10240.Idx → Elt F .f32) :
    (n : ℕ) → n ≤ 160 → List (View.Piece (Elt F) S128x10240 .f32)
  | 0, _ => []
  | n + 1, h => yPiece X M G B n h :: yList X M G B n (Nat.le_of_succ_le h)

/-- Store `n` of the block maxima: rows of half `n / 80`, column `n % 80`. -/
def aPiece (X : S1x128x10240.Idx → Elt F .bf16) (M : S2x128x1.Idx → Elt F .f32) (G B : S1x10240.Idx → Elt F .f32)
    (n : ℕ) (h : n < 160) : View.Piece (Elt F) S128x128 .f32 :=
  ⟨Rect.unit ![64 * (n / 80), n % 80] S64x1.size (by
      intro a; fin_cases a <;> simp [S64x1, S128x128] <;> omega),
    k0_pay106 (k0_pay105
      (View.ld M (Rect.unit ![0, 64 * (n / 80), 0] S1x64x1.size (by intro a; fin_cases a <;> simp [S1x64x1, S2x128x1]; omega)))
      (View.ld M (Rect.unit ![1, 64 * (n / 80), 0] S1x64x1.size (by intro a; fin_cases a <;> simp [S1x64x1, S2x128x1]; omega)))
      (View.ld X (Rect.unit ![0, 64 * (n / 80), 128 * (n % 80)] S1x64x128.size (by
        intro a; fin_cases a <;> simp [S1x64x128, S1x128x10240] <;> omega)))
      (View.ld G (Rect.unit ![0, 128 * (n % 80)] S1x128.size (by intro a; fin_cases a <;> simp [S1x128, S1x10240]; omega)))
      (View.ld B (Rect.unit ![0, 128 * (n % 80)] S1x128.size (by intro a; fin_cases a <;> simp [S1x128, S1x10240]; omega))))⟩

/-- The first `n` stores of the block maxima, last first, over earlier stores `T`. -/
def aList (X : S1x128x10240.Idx → Elt F .bf16) (M : S2x128x1.Idx → Elt F .f32) (G B : S1x10240.Idx → Elt F .f32)
    (T : List (View.Piece (Elt F) S128x128 .f32)) : (n : ℕ) → n ≤ 160 → List (View.Piece (Elt F) S128x128 .f32)
  | 0, _ => T
  | n + 1, h => aPiece X M G B n h :: aList X M G B T n (Nat.le_of_succ_le h)

/-- Store `n` of the codes: all rows, columns of the pair of blocks `n`. -/
def cPiece (I : FVec F S128x128 .bf16) (E : S128x10240.Idx → Elt F .bf16) (Y : S128x10240.Idx → Elt F .f32)
    (n : ℕ) (h : n < 40) : View.Piece (Elt F) S1x128x10240 .fp8e4m3 :=
  ⟨Rect.unit ![0, 0, 256 * n] S1x128x256.size (by
      intro a; fin_cases a <;> simp [S1x128x256, S1x128x10240]; omega),
    k0_pay667 I
      (View.ld E (Rect.unit ![0, 256 * n] S128x256.size (by intro a; fin_cases a <;> simp [S128x256, S128x10240]; omega)))
      (View.ld Y (Rect.unit ![0, 256 * n] S128x256.size (by intro a; fin_cases a <;> simp [S128x256, S128x10240]; omega)))⟩

/-- The first `n` stores of the codes, last first. -/
def cList (I : FVec F S128x128 .bf16) (E : S128x10240.Idx → Elt F .bf16) (Y : S128x10240.Idx → Elt F .f32) :
    (n : ℕ) → n ≤ 40 → List (View.Piece (Elt F) S1x128x10240 .fp8e4m3)
  | 0, _ => []
  | n + 1, h => cPiece I E Y n h :: cList I E Y n (Nat.le_of_succ_le h)

/-- Store `n` of the expansion matrix: all rows, columns of block `n`. -/
def ePiece (n : ℕ) (h : n < 80) : View.Piece (Elt F) S128x10240 .bf16 :=
  ⟨Rect.unit ![0, 128 * n] S128x128.size (by
      intro a; fin_cases a <;> simp [S128x128, S128x10240]; omega),
    shapeCast S128x128 (truncf .bf16 (select
        (cmpi .eq (iota .tc S128x128 32 [0] iota_S128x128_d0_w32) (broadcast S128x128 (BitVec.ofNat 32 n)))
        (broadcast S128x128 (Scalar.ofBits .f32 0x3F800000#32 : F .f32))
        (broadcast S128x128 (Scalar.ofBits .f32 0x00000000#32 : F .f32))) bitsLt_bf16_f32) shapeCasts_S128x128_S128x128⟩

/-- The first `n` stores of the expansion matrix, last first. -/
def eList : (n : ℕ) → n ≤ 80 → List (View.Piece (Elt F) S128x10240 .bf16)
  | 0, _ => []
  | n + 1, h => ePiece n h :: eList n (Nat.le_of_succ_le h)

section CaseB

variable (c : Dev nD) (i : grid0.Coords) (arg2 : Memref sig .tc .smem S1 .f32) (harg2 : arg2.IsWhole) (arg3 : Memref sig .tc .vmem S1x128x10240 .bf16) (harg3 : arg3.IsWhole) (arg4 : Memref sig .tc .vmem S1x3x640 .f32) (harg4 : arg4.IsWhole) (arg5 : Memref sig .tc .vmem S1x3x640 .f32) (harg5 : arg5.IsWhole) (arg6 : Memref sig .tc .vmem S1x10240 .f32) (harg6 : arg6.IsWhole) (arg7 : Memref sig .tc .vmem S1x10240 .f32) (harg7 : arg7.IsWhole) (arg8 : Memref sig .tc .vmem S1x128x10240 .fp8e4m3) (harg8 : arg8.IsWhole) (arg9 : Memref sig .tc .vmem S1x128x80 .f32) (harg9 : arg9.IsWhole) (arg10 : Memref sig .tc .vmem S3x640 .f32) (harg10 : arg10.IsWhole) (arg11 : Memref sig .tc .vmem S3x640 .f32) (harg11 : arg11.IsWhole) (arg12 : Memref sig .tc .vmem S128x10240 .f32) (harg12 : arg12.IsWhole) (arg13 : Memref sig .tc .vmem S128x128 .f32) (harg13 : arg13.IsWhole) (arg14 : Memref sig .tc .vmem S128x10240 .bf16) (harg14 : arg14.IsWhole) (arg15 : Memref sig .tc .vmem S2x128x1 .f32) (harg15 : arg15.IsWhole) (hc0 : ¬cond0_0 i)
    (x0 : Vec F S1 .f32) (x1 : Vec F S1x128x10240 .bf16) (x2 : Vec F S1x3x640 .f32) (x3 : Vec F S1x3x640 .f32) (x4 : Vec F S1x10240 .f32) (x5 : Vec F S1x10240 .f32) (xo8 : Vec F S3x640 .f32) (xo9 : Vec F S3x640 .f32) (xs1 : Vec F S128x128 .f32) (xs2 : Vec F S128x10240 .bf16)

/-- Case B: the stored mean and reciprocal deviation of the tile's rows, as columns. -/
theorem LT3_B :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo8 xo9 xs1 xs2).2.2.2.2.2.2.2.1 =
      [⟨Rect.unit ![1, 0, 0] S1x128x1.size inb_S2x128x1_S1x128x1_1_0_0, k0_pay100 k0_pay87 (k0_pay95 (k0_pay88 (View.ld (arg3.view.read (Elt F) (harg3.unread x1)) (Rect.unit ![0, 0, 0] S1x128x10240.size inb_S1x128x10240_S1x128x10240_0_0_0))) (k0_pay89 (View.ld (arg3.view.read (Elt F) (harg3.unread x1)) (Rect.unit ![0, 0, 0] S1x128x10240.size inb_S1x128x10240_S1x128x10240_0_0_0))) (k0_pay90 i) ((View.ld (arg2.view.read (Elt F) (harg2.unread x0)) (Rect.unit ![0] S1.size inb_S1_S1_0)) (Shape.Idx.first (by decide))) (k0_pay91 i (View.ld (arg4.view.read (Elt F) (harg4.unread x2)) (Rect.unit (k0_off1 i) S1x3x128.size (k0_off1_inb i)))) (View.ld (arg5.view.read (Elt F) (harg5.unread x3)) (Rect.unit (k0_off1 i) S1x3x128.size (k0_off1_inb i))))⟩,
       ⟨Rect.unit ![0, 0, 0] S1x128x1.size inb_S2x128x1_S1x128x1_0_0_0, k0_pay99 (k0_pay98 k0_pay87 (k0_pay88 (View.ld (arg3.view.read (Elt F) (harg3.unread x1)) (Rect.unit ![0, 0, 0] S1x128x10240.size inb_S1x128x10240_S1x128x10240_0_0_0))) ((View.ld (arg2.view.read (Elt F) (harg2.unread x0)) (Rect.unit ![0] S1.size inb_S1_S1_0)) (Shape.Idx.first (by decide))) (k0_pay91 i (View.ld (arg4.view.read (Elt F) (harg4.unread x2)) (Rect.unit (k0_off1 i) S1x3x128.size (k0_off1_inb i)))))⟩] := rfl

/-- Case B: the stores of the normalised tile. -/
theorem LT0_B :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo8 xo9 xs1 xs2).2.2.2.2.2.2.1 =
      yList (arg3.view.read (Elt F) (harg3.unread x1)) (arg15.view.read (Elt F) (arg15.view.writes (Elt F) arg15.view.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo8 xo9 xs1 xs2).2.2.2.2.2.2.2.1)) (arg6.view.read (Elt F) (harg6.unread x4)) (arg7.view.read (Elt F) (harg7.unread x5)) 160 le_rfl := rfl

/-- Case B: the stores of the block maxima. -/
theorem LS1_B :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo8 xo9 xs1 xs2).2.2.2.2.1 =
      aList (arg3.view.read (Elt F) (harg3.unread x1)) (arg15.view.read (Elt F) (arg15.view.writes (Elt F) arg15.view.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo8 xo9 xs1 xs2).2.2.2.2.2.2.2.1)) (arg6.view.read (Elt F) (harg6.unread x4)) (arg7.view.read (Elt F) (harg7.unread x5)) [] 160 le_rfl := rfl

/-- Case B: the store of the scales. -/
theorem L7_B :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo8 xo9 xs1 xs2).2.1 =
      [⟨Rect.unit ![0, 0, 0] S1x128x80.size inb_S1x128x80_S1x128x80_0_0_0, k0_pay663 (View.ld (arg13.view.read (Elt F) (arg13.view.writes (Elt F) (harg13.unread xs1) (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo8 xo9 xs1 xs2).2.2.2.2.1)) (Rect.unit ![0, 0] S128x128.size inb_S128x128_S128x128_0_0)) (k0_pay661 (View.ld (arg13.view.read (Elt F) (arg13.view.writes (Elt F) (harg13.unread xs1) (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo8 xo9 xs1 xs2).2.2.2.2.1)) (Rect.unit ![0, 0] S128x128.size inb_S128x128_S128x128_0_0))) 255#32⟩] := rfl

/-- Case B: the stores of the codes. -/
theorem L6_B :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo8 xo9 xs1 xs2).1 =
      cList (k0_pay664 (View.ld (arg13.view.read (Elt F) (arg13.view.writes (Elt F) (harg13.unread xs1) (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo8 xo9 xs1 xs2).2.2.2.2.1)) (Rect.unit ![0, 0] S128x128.size inb_S128x128_S128x128_0_0)) (k0_pay661 (View.ld (arg13.view.read (Elt F) (arg13.view.writes (Elt F) (harg13.unread xs1) (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo8 xo9 xs1 xs2).2.2.2.2.1)) (Rect.unit ![0, 0] S128x128.size inb_S128x128_S128x128_0_0))) 255#32) (arg14.view.read (Elt F) (harg14.unread xs2)) (arg12.view.read (Elt F) (arg12.view.writes (Elt F) arg12.view.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo8 xo9 xs1 xs2).2.2.2.2.2.2.1)) 40 le_rfl := rfl

/-- Case B: the store of the mean. -/
theorem L8_B :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo8 xo9 xs1 xs2).2.2.1 =
      ⟨Rect.unit (k0_off2 i) S3x128.size (k0_off2_inb i), k0_pay96 (k0_pay88 (View.ld (arg3.view.read (Elt F) (harg3.unread x1)) (Rect.unit ![0, 0, 0] S1x128x10240.size inb_S1x128x10240_S1x128x10240_0_0_0))) (k0_pay90 i) ((View.ld (arg2.view.read (Elt F) (harg2.unread x0)) (Rect.unit ![0] S1.size inb_S1_S1_0)) (Shape.Idx.first (by decide))) (k0_pay91 i (View.ld (arg4.view.read (Elt F) (harg4.unread x2)) (Rect.unit (k0_off1 i) S1x3x128.size (k0_off1_inb i)))) (View.ld (arg10.view.read (Elt F) (harg10.unread xo8)) (Rect.unit (k0_off2 i) S3x128.size (k0_off2_inb i)))⟩ :: [] := rfl

/-- Case B: the store of the reciprocal deviation. -/
theorem L9_B :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo8 xo9 xs1 xs2).2.2.2.1 =
      ⟨Rect.unit (k0_off2 i) S3x128.size (k0_off2_inb i), k0_pay97 (k0_pay88 (View.ld (arg3.view.read (Elt F) (harg3.unread x1)) (Rect.unit ![0, 0, 0] S1x128x10240.size inb_S1x128x10240_S1x128x10240_0_0_0))) (k0_pay89 (View.ld (arg3.view.read (Elt F) (harg3.unread x1)) (Rect.unit ![0, 0, 0] S1x128x10240.size inb_S1x128x10240_S1x128x10240_0_0_0))) (k0_pay90 i) ((View.ld (arg2.view.read (Elt F) (harg2.unread x0)) (Rect.unit ![0] S1.size inb_S1_S1_0)) (Shape.Idx.first (by decide))) (k0_pay91 i (View.ld (arg4.view.read (Elt F) (harg4.unread x2)) (Rect.unit (k0_off1 i) S1x3x128.size (k0_off1_inb i)))) (View.ld (arg5.view.read (Elt F) (harg5.unread x3)) (Rect.unit (k0_off1 i) S1x3x128.size (k0_off1_inb i))) (View.ld (arg11.view.read (Elt F) (harg11.unread xo9)) (Rect.unit (k0_off2 i) S3x128.size (k0_off2_inb i)))⟩ :: [] := rfl

end CaseB

section CaseA

variable (c : Dev nD) (i : grid0.Coords) (arg2 : Memref sig .tc .smem S1 .f32) (harg2 : arg2.IsWhole) (arg3 : Memref sig .tc .vmem S1x128x10240 .bf16) (harg3 : arg3.IsWhole) (arg4 : Memref sig .tc .vmem S1x3x640 .f32) (harg4 : arg4.IsWhole) (arg5 : Memref sig .tc .vmem S1x3x640 .f32) (harg5 : arg5.IsWhole) (arg6 : Memref sig .tc .vmem S1x10240 .f32) (harg6 : arg6.IsWhole) (arg7 : Memref sig .tc .vmem S1x10240 .f32) (harg7 : arg7.IsWhole) (arg8 : Memref sig .tc .vmem S1x128x10240 .fp8e4m3) (harg8 : arg8.IsWhole) (arg9 : Memref sig .tc .vmem S1x128x80 .f32) (harg9 : arg9.IsWhole) (arg10 : Memref sig .tc .vmem S3x640 .f32) (harg10 : arg10.IsWhole) (arg11 : Memref sig .tc .vmem S3x640 .f32) (harg11 : arg11.IsWhole) (arg12 : Memref sig .tc .vmem S128x10240 .f32) (harg12 : arg12.IsWhole) (arg13 : Memref sig .tc .vmem S128x128 .f32) (harg13 : arg13.IsWhole) (arg14 : Memref sig .tc .vmem S128x10240 .bf16) (harg14 : arg14.IsWhole) (arg15 : Memref sig .tc .vmem S2x128x1 .f32) (harg15 : arg15.IsWhole) (hc0 : cond0_0 i)
    (x0 : Vec F S1 .f32) (x1 : Vec F S1x128x10240 .bf16) (x2 : Vec F S1x3x640 .f32) (x3 : Vec F S1x3x640 .f32) (x4 : Vec F S1x10240 .f32) (x5 : Vec F S1x10240 .f32)

/-- Case A: the stored mean and reciprocal deviation of the tile's rows, as columns. -/
theorem LT3_A :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.2.2.2.2.2.2.1 =
      [⟨Rect.unit ![1, 0, 0] S1x128x1.size inb_S2x128x1_S1x128x1_1_0_0, k0_pay100 k0_pay87 (k0_pay95 (k0_pay88 (View.ld (arg3.view.read (Elt F) (harg3.unread x1)) (Rect.unit ![0, 0, 0] S1x128x10240.size inb_S1x128x10240_S1x128x10240_0_0_0))) (k0_pay89 (View.ld (arg3.view.read (Elt F) (harg3.unread x1)) (Rect.unit ![0, 0, 0] S1x128x10240.size inb_S1x128x10240_S1x128x10240_0_0_0))) (k0_pay90 i) ((View.ld (arg2.view.read (Elt F) (harg2.unread x0)) (Rect.unit ![0] S1.size inb_S1_S1_0)) (Shape.Idx.first (by decide))) (k0_pay91 i (View.ld (arg4.view.read (Elt F) (harg4.unread x2)) (Rect.unit (k0_off1 i) S1x3x128.size (k0_off1_inb i)))) (View.ld (arg5.view.read (Elt F) (harg5.unread x3)) (Rect.unit (k0_off1 i) S1x3x128.size (k0_off1_inb i))))⟩,
       ⟨Rect.unit ![0, 0, 0] S1x128x1.size inb_S2x128x1_S1x128x1_0_0_0, k0_pay99 (k0_pay98 k0_pay87 (k0_pay88 (View.ld (arg3.view.read (Elt F) (harg3.unread x1)) (Rect.unit ![0, 0, 0] S1x128x10240.size inb_S1x128x10240_S1x128x10240_0_0_0))) ((View.ld (arg2.view.read (Elt F) (harg2.unread x0)) (Rect.unit ![0] S1.size inb_S1_S1_0)) (Shape.Idx.first (by decide))) (k0_pay91 i (View.ld (arg4.view.read (Elt F) (harg4.unread x2)) (Rect.unit (k0_off1 i) S1x3x128.size (k0_off1_inb i)))))⟩] := rfl

/-- Case A: the stores of the normalised tile. -/
theorem LT0_A :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.2.2.2.2.2.1 =
      yList (arg3.view.read (Elt F) (harg3.unread x1)) (arg15.view.read (Elt F) (arg15.view.writes (Elt F) arg15.view.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.2.2.2.2.2.2.1)) (arg6.view.read (Elt F) (harg6.unread x4)) (arg7.view.read (Elt F) (harg7.unread x5)) 160 le_rfl := rfl

/-- Case A: the stores of the block maxima. -/
theorem LS1_A :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.2.2.2.1 =
      aList (arg3.view.read (Elt F) (harg3.unread x1)) (arg15.view.read (Elt F) (arg15.view.writes (Elt F) arg15.view.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.2.2.2.2.2.2.1)) (arg6.view.read (Elt F) (harg6.unread x4)) (arg7.view.read (Elt F) (harg7.unread x5)) [⟨Rect.unit ![0, 0] S128x128.size inb_S128x128_S128x128_0_0, k0_pay82⟩] 160 le_rfl := rfl

/-- Case A: the stores of the expansion matrix. -/
theorem LS2_A : (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.2.2.2.2.1 = eList 80 le_rfl := rfl

/-- Case A: the store of the scales. -/
theorem L7_A :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.1 =
      [⟨Rect.unit ![0, 0, 0] S1x128x80.size inb_S1x128x80_S1x128x80_0_0_0, k0_pay663 (View.ld (arg13.view.read (Elt F) (arg13.view.writes (Elt F) arg13.view.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.2.2.2.1)) (Rect.unit ![0, 0] S128x128.size inb_S128x128_S128x128_0_0)) (k0_pay661 (View.ld (arg13.view.read (Elt F) (arg13.view.writes (Elt F) arg13.view.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.2.2.2.1)) (Rect.unit ![0, 0] S128x128.size inb_S128x128_S128x128_0_0))) 255#32⟩] := rfl

/-- Case A: the stores of the codes. -/
theorem L6_A :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).1 =
      cList (k0_pay664 (View.ld (arg13.view.read (Elt F) (arg13.view.writes (Elt F) arg13.view.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.2.2.2.1)) (Rect.unit ![0, 0] S128x128.size inb_S128x128_S128x128_0_0)) (k0_pay661 (View.ld (arg13.view.read (Elt F) (arg13.view.writes (Elt F) arg13.view.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.2.2.2.1)) (Rect.unit ![0, 0] S128x128.size inb_S128x128_S128x128_0_0))) 255#32) (arg14.view.read (Elt F) (arg14.view.writes (Elt F) arg14.view.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.2.2.2.2.1)) (arg12.view.read (Elt F) (arg12.view.writes (Elt F) arg12.view.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.2.2.2.2.2.1)) 40 le_rfl := rfl

/-- Case A: the store of the mean. -/
theorem L8_A :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.2.1 =
      ⟨Rect.unit (k0_off2 i) S3x128.size (k0_off2_inb i), k0_pay96 (k0_pay88 (View.ld (arg3.view.read (Elt F) (harg3.unread x1)) (Rect.unit ![0, 0, 0] S1x128x10240.size inb_S1x128x10240_S1x128x10240_0_0_0))) (k0_pay90 i) ((View.ld (arg2.view.read (Elt F) (harg2.unread x0)) (Rect.unit ![0] S1.size inb_S1_S1_0)) (Shape.Idx.first (by decide))) (k0_pay91 i (View.ld (arg4.view.read (Elt F) (harg4.unread x2)) (Rect.unit (k0_off1 i) S1x3x128.size (k0_off1_inb i)))) (View.ld (arg10.view.read (Elt F) (arg10.view.writes (Elt F) arg10.view.junk [⟨Rect.unit ![0, 0] S3x640.size inb_S3x640_S3x640_0_0, k0_pay83⟩])) (Rect.unit (k0_off2 i) S3x128.size (k0_off2_inb i)))⟩ :: [⟨Rect.unit ![0, 0] S3x640.size inb_S3x640_S3x640_0_0, k0_pay83⟩] := rfl

/-- Case A: the store of the reciprocal deviation. -/
theorem L9_A :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.2.2.1 =
      ⟨Rect.unit (k0_off2 i) S3x128.size (k0_off2_inb i), k0_pay97 (k0_pay88 (View.ld (arg3.view.read (Elt F) (harg3.unread x1)) (Rect.unit ![0, 0, 0] S1x128x10240.size inb_S1x128x10240_S1x128x10240_0_0_0))) (k0_pay89 (View.ld (arg3.view.read (Elt F) (harg3.unread x1)) (Rect.unit ![0, 0, 0] S1x128x10240.size inb_S1x128x10240_S1x128x10240_0_0_0))) (k0_pay90 i) ((View.ld (arg2.view.read (Elt F) (harg2.unread x0)) (Rect.unit ![0] S1.size inb_S1_S1_0)) (Shape.Idx.first (by decide))) (k0_pay91 i (View.ld (arg4.view.read (Elt F) (harg4.unread x2)) (Rect.unit (k0_off1 i) S1x3x128.size (k0_off1_inb i)))) (View.ld (arg5.view.read (Elt F) (harg5.unread x3)) (Rect.unit (k0_off1 i) S1x3x128.size (k0_off1_inb i))) (View.ld (arg11.view.read (Elt F) (arg11.view.writes (Elt F) arg11.view.junk [⟨Rect.unit ![0, 0] S3x640.size inb_S3x640_S3x640_0_0, k0_pay84⟩])) (Rect.unit (k0_off2 i) S3x128.size (k0_off2_inb i)))⟩ :: [⟨Rect.unit ![0, 0] S3x640.size inb_S3x640_S3x640_0_0, k0_pay84⟩] := rfl

end CaseA

end Cert.KernelIdeal.Hand

end
-- ==== Proof.Tile.lean ====
/-
  What one grid point's stored values are, entry by entry, as extended reals.
-/
module

public import proofs.«01_k».proof.Proof.Pieces
public import Idealize.ShloMosaic.Lib.Pointwise
public import Idealize.ShloMosaic.Lib.IdealHost

@[expose] public section

set_option maxRecDepth 65536

noncomputable section

namespace Cert.KernelIdeal.Hand

open Cert.KernelIdeal Cert.KernelIdeal.Gen
open Idealize.ShloMosaic Idealize.ShloMosaic.TcCoe

/-- A mask bit's select, as a case distinction. -/
theorem sel_ite {α : Type} (p : Prop) [Decidable p] (a b : α) :
    Scalar.select (if p then (1#1 : BitVec 1) else 0#1) a b = if p then a else b := by
  unfold Scalar.select; split_ifs <;> simp_all

theorem cmp_eq_ofNat (a b : ℕ) (ha : a < 4096) (hb : b < 4096) :
    IntOp.cmpi CmpIPredicate.eq (BitVec.ofNat 32 a) (BitVec.ofNat 32 b) = if a = b then 1#1 else 0#1 := by
  have : (BitVec.ofNat 32 a = BitVec.ofNat 32 b) ↔ a = b := by
    rw [← BitVec.toNat_inj, BitVec.toNat_ofNat, BitVec.toNat_ofNat, Nat.mod_eq_of_lt (by omega), Nat.mod_eq_of_lt (by omega)]
  unfold IntOp.cmpi
  by_cases h : a = b
  · subst h; simp
  · have h' : (BitVec.ofNat 32 a == BitVec.ofNat 32 b) = false := beq_eq_false_iff_ne.2 (fun e => h (this.1 e))
    simp [h, h']

theorem pay86_at (v : Vec Ideal S1x128x10240 .bf16) (r : Fin 128) :
    k0_pay86 (F := Ideal) v (ix2 0 r) = ∑ k : Fin 10240, v (ix3 0 r k) := by
  pointwise [k0_pay86, k0_pay85]

theorem pay88_at (v : Vec Ideal S1x128x10240 .bf16) (r : Fin 128) :
    k0_pay88 (F := Ideal) v (ix2 0 r) = Ideal.div (∑ k : Fin 10240, v (ix3 0 r k)) (Ideal.ofBits .f32 0x46200000#32) := by
  pointwise [k0_pay88, pay86_at]

theorem pay87_at (r q : Fin 128) : k0_pay87 (ix2 r q) = if r.val = q.val then 1#1 else 0#1 := by
  pointwise [k0_pay87]
  exact cmp_eq_ofNat _ _ (by omega) (by omega)

theorem pay89_at (v : Vec Ideal S1x128x10240 .bf16) (r : Fin 128) :
    k0_pay89 (F := Ideal) v (ix2 0 r) = (∑ k : Fin 10240, v (ix3 0 r k) * v (ix3 0 r k)) -
      (∑ k : Fin 10240, v (ix3 0 r k)) * Ideal.div (∑ k : Fin 10240, v (ix3 0 r k)) (Ideal.ofBits .f32 0x46200000#32) := by
  rw [← pay88_at, ← pay86_at]
  pointwise [k0_pay89, k0_pay85]
  congr 1
  rw [Finset.sum_eq_single r]
  · rw [pay87_at, sel_ite, if_pos rfl]
  · intro q _ hq
    rw [pay87_at, sel_ite, if_neg (fun e => hq (Fin.ext e))]
  · simp

theorem pay90_at (i : grid0.Coords) (b : Fin 3) (r : Fin 128) :
    k0_pay90 i (ix2 b r) = if b.val = (i 0).val then 1#1 else 0#1 := by
  pointwise [k0_pay90]
  exact cmp_eq_ofNat _ _ (by omega) (by have := (i 0).isLt; simp [grid0] at this; omega)

/-- The masked sum over the batch rows keeps the row of the grid point. -/
theorem pick_at (i : grid0.Coords) (f : Fin 3 → EReal) (r : Fin 128) (b : Fin 3) (hb : b.val = (i 0).val) :
    (∑ x : Fin 3, Scalar.select (k0_pay90 i (ix2 x r)) (f x) 0) = f b := by
  rw [Finset.sum_eq_single b]
  · rw [pay90_at, sel_ite, if_pos hb]
  · intro q _ hq
    rw [pay90_at, sel_ite, if_neg (fun e => hq (Fin.ext (e.trans hb.symm)))]
  · simp

theorem pay91_at (i : grid0.Coords) (v : Vec Ideal S1x3x128 .f32) (r : Fin 128) (b : Fin 3) (hb : b.val = (i 0).val) :
    k0_pay91 (F := Ideal) i v (ix2 0 r) = v (ix3 0 b r) := by
  pointwise [k0_pay91]
  exact pick_at i (fun x => v (ix3 0 x r)) r b hb

/-- The number of columns, as the kernel's constant. -/
def cN : EReal := Ideal.ofBits .f32 0x46200000#32
/-- The variance's added constant. -/
def cEps : EReal := Ideal.ofBits .f32 0x3727C5AC#32

/-- A row's local mean. -/
def locMean (x : Fin 10240 → EReal) : EReal := Ideal.div (∑ k, x k) cN

/-- A row's merged mean. -/
def kMean (x : Fin 10240 → EReal) (n pm : EReal) : EReal :=
  locMean x + (pm - locMean x) * Ideal.div n (cN + n)

/-- A row's merged reciprocal deviation, as the kernel takes it. -/
def kRstd (x : Fin 10240 → EReal) (n pm pq : EReal) : EReal :=
  Ideal.rsqrt (Ideal.div (((∑ k, x k * x k) - (∑ k, x k) * locMean x) + pq +
    (pm - locMean x) * (pm - locMean x) * Ideal.div (cN * n) (cN + n)) (cN + n) + cEps)

theorem pay94_at (v : Vec Ideal S1x128x10240 .bf16) (n : Ideal .f32) (pm : Vec Ideal S1x3x128 .f32) (i : grid0.Coords)
    (r : Fin 128) (b : Fin 3) (hb : b.val = (i 0).val) :
    k0_pay94 (F := Ideal) (k0_pay88 v) n (k0_pay91 i pm) (ix2 0 r) =
      kMean (fun k => v (ix3 0 r k)) n (pm (ix3 0 b r)) := by
  pointwise [k0_pay94, k0_pay93, k0_pay92, pay88_at]
  rw [pay91_at i pm r b hb]
  rfl

theorem pay95_at (v : Vec Ideal S1x128x10240 .bf16) (n : Ideal .f32) (pm pq : Vec Ideal S1x3x128 .f32) (i : grid0.Coords)
    (r : Fin 128) (b : Fin 3) (hb : b.val = (i 0).val) :
    k0_pay95 (F := Ideal) (k0_pay88 v) (k0_pay89 v) (k0_pay90 i) n (k0_pay91 i pm) pq (ix2 0 r) =
      kRstd (fun k => v (ix3 0 r k)) n (pm (ix3 0 b r)) (pq (ix3 0 b r)) := by
  pointwise [k0_pay95, k0_pay93, k0_pay92, pay88_at, pay89_at]
  rw [pay91_at i pm r b hb, pick_at i (fun x => pq (ix3 0 x r)) r b hb]
  rfl

theorem pay96_at (v21 v34 : FVec Ideal S1x128 .f32) (n : Ideal .f32) (P : Vec Ideal S3x128 .f32) (i : grid0.Coords)
    (b : Fin 3) (r : Fin 128) :
    k0_pay96 (F := Ideal) v21 (k0_pay90 i) n v34 P (ix2 b r) =
      if b.val = (i 0).val then k0_pay94 v21 n v34 (ix2 0 r) else P (ix2 b r) := by
  pointwise [k0_pay96]
  rw [pay90_at, sel_ite]

theorem pay97_at (v21 v23 v34 : FVec Ideal S1x128 .f32) (n : Ideal .f32) (pq : Vec Ideal S1x3x128 .f32)
    (P : Vec Ideal S3x128 .f32) (i : grid0.Coords) (b : Fin 3) (r : Fin 128) :
    k0_pay97 (F := Ideal) v21 v23 (k0_pay90 i) n v34 pq P (ix2 b r) =
      if b.val = (i 0).val then k0_pay95 v21 v23 (k0_pay90 i) n v34 pq (ix2 0 r) else P (ix2 b r) := by
  pointwise [k0_pay97]
  rw [pay90_at, sel_ite]

/-- The masked sum along a row of the identity's mask keeps the diagonal. -/
theorem diag_at (f : Fin 128 → EReal) (r : Fin 128) :
    (∑ x : Fin 128, Scalar.select (k0_pay87 (ix2 r x)) (f x) 0) = f r := by
  rw [Finset.sum_eq_single r]
  · rw [pay87_at, sel_ite, if_pos rfl]
  · intro q _ hq
    rw [pay87_at, sel_ite, if_neg (fun e => hq (Fin.ext e.symm))]
  · simp

theorem pay99_at (v21 v34 : FVec Ideal S1x128 .f32) (n : Ideal .f32) (r : Fin 128) :
    k0_pay99 (k0_pay98 (F := Ideal) k0_pay87 v21 n v34) (ix3 0 r 0) = k0_pay94 v21 n v34 (ix2 0 r) := by
  pointwise [k0_pay99, k0_pay98]
  exact diag_at (fun x => k0_pay94 v21 n v34 (ix2 0 x)) r

theorem pay100_at (v : FVec Ideal S1x128 .f32) (r : Fin 128) :
    k0_pay100 (F := Ideal) k0_pay87 v (ix3 0 r 0) = v (ix2 0 r) := by
  pointwise [k0_pay100]
  exact diag_at (fun x => v (ix2 0 x)) r

/-- One normalised entry. -/
def kY (x m r g b : EReal) : EReal := (x - m) * r * g + b

/-- A block's largest magnitude. -/
def kA (f : Fin 128 → EReal) : EReal :=
  Finset.fold max (Ideal.ofBits .f32 0xFF800000#32) (fun x => FloatOps.absf (F := Ideal) (φ := .f32) (f x)) Finset.univ

theorem pay104_at (v94 v96 : Vec Ideal S1x64x1 .f32) (v98 : Vec Ideal S1x64x128 .bf16) (v105 v109 : Vec Ideal S1x128 .f32)
    (r : Fin 64) (c : Fin 128) :
    k0_pay104 (F := Ideal) v94 v96 v98 v105 v109 (ix2 r c) =
      kY (v98 (ix3 0 r c)) (v94 (ix3 0 r 0)) (v96 (ix3 0 r 0)) (v105 (ix2 0 c)) (v109 (ix2 0 c)) := by
  pointwise [k0_pay104, k0_pay103, k0_pay101, k0_pay102]
  rfl

theorem pay106_at (v94 v96 : Vec Ideal S1x64x1 .f32) (v98 : Vec Ideal S1x64x128 .bf16) (v105 v109 : Vec Ideal S1x128 .f32)
    (r : Fin 64) :
    k0_pay106 (k0_pay105 (F := Ideal) v94 v96 v98 v105 v109) (ix2 r 0) =
      kA (fun c => kY (v98 (ix3 0 r c)) (v94 (ix3 0 r 0)) (v96 (ix3 0 r 0)) (v105 (ix2 0 c)) (v109 (ix2 0 c))) := by
  pointwise [k0_pay106, k0_pay105, k0_pay103, k0_pay101, k0_pay102]
  rfl

/-- One quantised entry. -/
def kQ (y s : EReal) : EReal :=
  min (Ideal.ofBits .f32 0x43E00000#32) (max (Ideal.ofBits .f32 0xC3E00000#32) (y * s))

theorem pay667_at (I : FVec Ideal S128x128 .bf16) (E : Vec Ideal S128x256 .bf16) (Y : Vec Ideal S128x256 .f32)
    (r : Fin 128) (c : Fin 256) :
    k0_pay667 (F := Ideal) I E Y (ix3 0 r c) = kQ (Y (ix2 r c)) (∑ x, I (ix2 r x) * E (ix2 x c)) := by
  pointwise [k0_pay667]
  rfl

/-- One step of the search for the exponent bits. -/
def stepB (t : EReal) (c b : BitVec 32) : BitVec 32 :=
  Scalar.select (FloatOps.cmpf (F := Ideal) (φ := .f32) .oge t (Ideal.ofBits .f32 (IntOp.addi b c))) (IntOp.addi b c) b

/-- The exponent bits of `t`, in place. -/
def eBits (t : EReal) : BitVec 32 :=
  stepB t 8388608#32 (stepB t 16777216#32 (stepB t 33554432#32 (stepB t 67108864#32
    (stepB t 134217728#32 (stepB t 268435456#32 (stepB t 536870912#32 (stepB t 1073741824#32 0#32)))))))

/-- The factor that takes a block's largest magnitude to the target's range. -/
def cInv : EReal := Ideal.ofBits .f32 0x3B124925#32

/-- One step of the search, on every entry. -/
def stepV (t : FVec Ideal S128x128 .f32) (c : BitVec 32) (B : IVec S128x128 32) : IVec S128x128 32 :=
  select (cmpf .oge t (bitcastToFloat .f32 (addi B (broadcast S128x128 c)))) (addi B (broadcast S128x128 c)) B

theorem stepV_at (t : FVec Ideal S128x128 .f32) (c : BitVec 32) (B : IVec S128x128 32) (j : S128x128.Idx) :
    stepV t c B j = stepB (t j) c (B j) := by rfl

theorem pay661_eq (A : Vec Ideal S128x128 .f32) :
    k0_pay661 (F := Ideal) A =
      (let t := mulf A (broadcast S128x128 cInv)
       shrui (stepV t 8388608#32 (stepV t 16777216#32 (stepV t 33554432#32 (stepV t 67108864#32
        (stepV t 134217728#32 (stepV t 268435456#32 (stepV t 536870912#32 (stepV t 1073741824#32 (broadcast S128x128 0#32)))))))))
        (broadcast S128x128 23#32)) := by
  unfold k0_pay661 stepV
  rfl

theorem shrui_at (x y : IVec S128x128 32) (j : S128x128.Idx) : shrui x y j = IntOp.shrui .vector (x j) (y j) := by rfl

theorem pay661_at (A : Vec Ideal S128x128 .f32) (j : S128x128.Idx) :
    k0_pay661 (F := Ideal) A j = IntOp.shrui .vector (eBits (A j * cInv)) 23#32 := by
  have ht : mulf (F := Ideal) (s := S128x128) (φ := .f32) A (broadcast S128x128 cInv) j = A j * cInv := by rfl
  rw [pay661_eq]
  simp only [shrui_at, stepV_at, ht]
  rfl

/-- The scale's exponent, from the largest magnitude and the field. -/
def eSel (a : EReal) (f : BitVec 32) : BitVec 32 :=
  Scalar.select (IntOp.andi (IntOp.andi (IntOp.cmpi .sgt (IntOp.andi f 255#32) 0#32) (IntOp.cmpi .slt (IntOp.andi f 255#32) 255#32))
    (FloatOps.cmpf (F := Ideal) (φ := .f32) .one a (Ideal.ofBits .f32 0x00000000#32)))
    (IntOp.subi (IntOp.andi f 255#32) 126#32) 0#32

theorem pay662_at (A : Vec Ideal S128x128 .f32) (f : IVec S128x128 32) (j : S128x128.Idx) :
    k0_pay662 (F := Ideal) A f 255#32 j = eSel (A j) (f j) := rfl

/-- The scale's exponent of a block. -/
def eOf (a : EReal) : BitVec 32 := eSel a (IntOp.shrui .vector (eBits (a * cInv)) 23#32)

/-- A block's scale. -/
def kScale (a : EReal) : EReal := Ideal.ofBits .f32 (IntOp.shli .vector (IntOp.addi (eOf a) 127#32) 23#32)
/-- A block's reciprocal scale. -/
def kInv (a : EReal) : EReal := Ideal.ofBits .f32 (IntOp.shli .vector (IntOp.subi 127#32 (eOf a)) 23#32)

theorem pay664_at (A : Vec Ideal S128x128 .f32) (j : S128x128.Idx) :
    k0_pay664 (F := Ideal) A (k0_pay661 A) 255#32 j = kInv (A j) := by
  have h : k0_pay664 (F := Ideal) A (k0_pay661 A) 255#32 j =
      Ideal.ofBits .f32 (IntOp.shli .vector (IntOp.subi 127#32 (k0_pay662 (F := Ideal) A (k0_pay661 A) 255#32 j)) 23#32) := by
    generalize k0_pay661 A = f
    rfl
  rw [h, pay662_at, pay661_at]
  rfl

theorem pay663_at (A : Vec Ideal S128x128 .f32) (r : Fin 128) (c : Fin 80) :
    k0_pay663 (F := Ideal) A (k0_pay661 A) 255#32 (ix3 0 r c) = kScale (A (ix2 r ⟨c.val, by omega⟩)) := by
  pointwise [k0_pay663]
  rw [pay662_at, pay661_at]
  rfl

end Cert.KernelIdeal.Hand
-- ==== Proof.Scale.lean ====
/-
  The block scale: the search over the exponent bits finds the field of the tested value, and the scale and its reciprocal
  built from that field are the powers of two they should be.
-/
module

public import proofs.«01_k».proof.Proof.Tile

@[expose] public section

noncomputable section

namespace Cert.KernelIdeal.Hand

open Cert.KernelIdeal Cert.KernelIdeal.Gen
open Idealize.ShloMosaic Idealize.ShloMosaic.TcCoe

/-- The value whose exponent field is `n` and whose fraction is zero. -/
def pw (n : ℕ) : EReal := if n = 0 then 0 else (((2 : ℝ) ^ ((n : ℤ) - 127) : ℝ) : EReal)

theorem pw_zero : pw 0 = 0 := if_pos rfl
theorem pw_pos {n : ℕ} (h : n ≠ 0) : pw n = (((2 : ℝ) ^ ((n : ℤ) - 127) : ℝ) : EReal) := if_neg h

theorem pw_lt {a b : ℕ} (h : a < b) : pw a < pw b := by
  have hb : b ≠ 0 := by omega
  rw [pw_pos hb]
  by_cases ha : a = 0
  · rw [ha, pw_zero]
    exact_mod_cast zpow_pos (by norm_num : (0 : ℝ) < 2) _
  · rw [pw_pos ha, EReal.coe_lt_coe_iff]
    exact zpow_lt_zpow_right₀ (by norm_num) (by omega)

theorem pw_le {a b : ℕ} (h : a ≤ b) : pw a ≤ pw b := by
  rcases Nat.eq_or_lt_of_le h with rfl | h
  · exact le_rfl
  · exact (pw_lt h).le

theorem fields : ∀ w : Fin 255,
    ((BitVec.ofNat 32 (w.val * 8388608)).extractLsb' (8 + 23) 1 == 1#1) = false ∧
    ((BitVec.ofNat 32 (w.val * 8388608)).extractLsb' 23 8).toNat = w.val ∧
    ((BitVec.ofNat 32 (w.val * 8388608)).extractLsb' 0 23).toNat = 0 := by decide +kernel

theorem ofBits_pw (w : ℕ) (hw : w < 255) : Ideal.ofBits .f32 (BitVec.ofNat 32 (w * 8388608)) = pw w := by
  obtain ⟨h1, h2, h3⟩ := fields ⟨w, hw⟩
  simp only at h1 h2 h3
  show Ideal.ieee 8 23 (BitVec.ofNat 32 (w * 8388608)) = pw w
  unfold Ideal.ieee
  simp only [h1, h2, h3]
  rw [if_neg (by omega)]
  by_cases h0 : w = 0
  · rw [if_pos h0, h0, pw_zero]
    simp
  · rw [if_neg h0, pw_pos h0]
    congr 1
    simp only [Bool.false_eq_true, if_false, one_mul, add_zero]
    push_cast
    have e8 : (8388608 : ℝ) = (2 : ℝ) ^ (23 : ℤ) := by norm_num
    rw [e8, ← zpow_add₀ (by norm_num)]
    congr 1
    ring

theorem cmp_oge (x y : EReal) : FloatOps.cmpf (F := Ideal) (φ := .f32) .oge x y = if y ≤ x then 1#1 else 0#1 := by
  show BitVec.ofBool _ = _
  by_cases h : y ≤ x <;> simp [h]

/-- One step of the search keeps the bracket. -/
theorem stepB_spec (t : EReal) (w d : ℕ) (hd : 0 < d) (hwd : 2 * d ∣ w) (ht : t < pw 254) (hw : w + 2 * d ≤ 256)
    (hlo : pw w ≤ t) (hhi : t < pw (w + 2 * d)) :
    ∃ w', d ∣ w' ∧ w' + d ≤ 256 ∧ stepB t (BitVec.ofNat 32 (d * 8388608)) (BitVec.ofNat 32 (w * 8388608)) = BitVec.ofNat 32 (w' * 8388608) ∧
      pw w' ≤ t ∧ t < pw (w' + d) := by
  have hw254 : w < 254 := by
    by_contra h
    exact absurd (lt_of_le_of_lt ((pw_le (by omega : 254 ≤ w)).trans hlo) ht) (lt_irrefl _)
  have hwd' : d ∣ w := (Dvd.intro_left 2 rfl).trans hwd
  have hlt : w + d < 255 := by
    rcases Nat.lt_or_ge 1 d with h | h
    · omega
    · have : d = 1 := by omega
      omega
  have hb : IntOp.addi (BitVec.ofNat 32 (w * 8388608)) (BitVec.ofNat 32 (d * 8388608)) = BitVec.ofNat 32 ((w + d) * 8388608) := by
    show BitVec.ofNat 32 (w * 8388608) + BitVec.ofNat 32 (d * 8388608) = _
    rw [← BitVec.ofNat_add, add_mul]
  unfold stepB
  rw [hb, ofBits_pw _ hlt, cmp_oge, sel_ite]
  by_cases h : pw (w + d) ≤ t
  · refine ⟨w + d, Nat.dvd_add hwd' (dvd_refl d), by omega, if_pos h, h, ?_⟩
    rw [show w + d + d = w + 2 * d by ring]
    exact hhi
  · exact ⟨w, hwd', by omega, if_neg h, hlo, not_le.1 h⟩

/-- The search: the field of `t`. -/
theorem eBits_spec (t : EReal) (h0 : 0 ≤ t) (ht : t < pw 253) :
    ∃ w, w < 253 ∧ eBits t = BitVec.ofNat 32 (w * 8388608) ∧ pw w ≤ t ∧ t < pw (w + 1) := by
  have ht' : t < pw 254 := ht.trans (pw_lt (by norm_num))
  obtain ⟨a, da, ha, ea, la, ua⟩ := stepB_spec t 0 128 (by norm_num) (by norm_num) ht' (by norm_num) (by rw [pw_zero]; exact h0)
    (ht'.trans (pw_lt (by norm_num)))
  obtain ⟨b, db, hb, eb, lb, ub⟩ := stepB_spec t a 64 (by norm_num) da ht' ha la ua
  obtain ⟨c, dc, hc, ec, lc, uc⟩ := stepB_spec t b 32 (by norm_num) db ht' hb lb ub
  obtain ⟨d, dd, hd, ed, ld, ud⟩ := stepB_spec t c 16 (by norm_num) dc ht' hc lc uc
  obtain ⟨e, de, he, ee, le, ue⟩ := stepB_spec t d 8 (by norm_num) dd ht' hd ld ud
  obtain ⟨f, df, hf, ef, lf, uf⟩ := stepB_spec t e 4 (by norm_num) de ht' he le ue
  obtain ⟨g, dg, hg, eg, lg, ug⟩ := stepB_spec t f 2 (by norm_num) df ht' hf lf uf
  obtain ⟨w, dw, hw, ew, lw, uw⟩ := stepB_spec t g 1 (by norm_num) dg ht' hg lg ug
  refine ⟨w, ?_, ?_, lw, uw⟩
  · by_contra h
    exact absurd (lt_of_le_of_lt ((pw_le (by omega : 253 ≤ w)).trans lw) ht) (lt_irrefl _)
  · rw [← ew, ← eg, ← ef, ← ee, ← ed, ← ec, ← eb, ← ea]
    rfl

theorem field_bits : ∀ w : Fin 253,
    IntOp.andi (IntOp.shrui .vector (BitVec.ofNat 32 (w.val * 8388608)) 23#32) 255#32 = BitVec.ofNat 32 w.val ∧
    IntOp.andi (IntOp.cmpi .sgt (BitVec.ofNat 32 w.val) 0#32) (IntOp.cmpi .slt (BitVec.ofNat 32 w.val) 255#32) =
      (if w.val = 0 then 0#1 else 1#1) ∧
    IntOp.shli .vector (IntOp.addi (IntOp.subi (BitVec.ofNat 32 w.val) 126#32) 127#32) 23#32 = BitVec.ofNat 32 ((w.val + 1) * 8388608) ∧
    IntOp.shli .vector (IntOp.subi 127#32 (IntOp.subi (BitVec.ofNat 32 w.val) 126#32)) 23#32 = BitVec.ofNat 32 ((253 - w.val) * 8388608) := by
  decide +kernel

theorem one_bits : IntOp.shli .vector (IntOp.addi 0#32 127#32) 23#32 = BitVec.ofNat 32 (127 * 8388608) ∧
    IntOp.shli .vector (IntOp.subi 127#32 0#32) 23#32 = BitVec.ofNat 32 (127 * 8388608) := by decide +kernel

theorem cmp_one (x y : EReal) : FloatOps.cmpf (F := Ideal) (φ := .f32) .one x y = if x ≠ y then 1#1 else 0#1 := by
  show BitVec.ofBool _ = _
  by_cases h : x = y <;> simp [h]

theorem zero_bits : Ideal.ofBits .f32 0x00000000#32 = 0 := (ofBits_pw 0 (by norm_num)).trans pw_zero

/-- The scale and its reciprocal of a block whose tested value has field `w`. -/
theorem kScale_spec (a : EReal) (h0 : 0 ≤ a * cInv) (ht : a * cInv < pw 253) :
    ∃ w, w < 253 ∧ pw w ≤ a * cInv ∧ a * cInv < pw (w + 1) ∧
      kScale a = (if w = 0 then 1 else pw (w + 1)) ∧ kInv a = (if w = 0 then 1 else pw (253 - w)) := by
  obtain ⟨w, hw, e, hlo, hhi⟩ := eBits_spec _ h0 ht
  refine ⟨w, hw, hlo, hhi, ?_⟩
  obtain ⟨f1, f2, f3, f4⟩ := field_bits ⟨w, hw⟩
  simp only at f1 f2 f3 f4
  have p127 : pw 127 = 1 := by rw [pw_pos (by norm_num)]; norm_num
  unfold kScale kInv eOf eSel
  rw [e, f1, f2, zero_bits, cmp_one]
  by_cases h : w = 0
  · subst h
    have hs : ∀ b : BitVec 1, IntOp.andi 0#1 b = 0#1 := by decide
    rw [if_pos rfl, hs]
    rw [show ∀ x y : BitVec 32, Scalar.select 0#1 x y = y from fun _ _ => rfl, one_bits.1, one_bits.2, ofBits_pw _ (by norm_num), p127]
    simp
  · have ha : a ≠ 0 := by
      rintro rfl
      rw [zero_mul] at hlo
      exact absurd (lt_of_lt_of_le (pw_lt (by omega : 0 < w)) hlo) (by rw [pw_zero]; exact lt_irrefl _)
    rw [if_neg h, if_pos ha]
    rw [show IntOp.andi 1#1 1#1 = 1#1 from rfl, show ∀ x y : BitVec 32, Scalar.select 1#1 x y = x from fun _ _ => rfl, f3, f4,
      ofBits_pw _ (by omega), ofBits_pw _ (by omega), if_neg h, if_neg h]
    exact ⟨rfl, rfl⟩

/-- The reciprocal is the reciprocal. -/
theorem kInv_eq (a : EReal) (h0 : 0 ≤ a * cInv) (ht : a * cInv < pw 253) : kInv a = Ideal.div 1 (kScale a) := by
  obtain ⟨w, hw, -, -, e1, e2⟩ := kScale_spec a h0 ht
  rw [e1, e2]
  by_cases h : w = 0
  · rw [if_pos h, if_pos h]
    have h1 : Ideal.div 1 ((1 : ℝ) : EReal) = 1 * (((1 : ℝ) / 1 : ℝ) : EReal) := Ideal.div_coe one_ne_zero 1
    simpa using h1.symm
  · rw [if_neg h, if_neg h, pw_pos (by omega), pw_pos (by omega), Ideal.div_coe (ne_of_gt (zpow_pos (by norm_num) _)), one_mul]
    congr 1
    rw [one_div, ← zpow_neg]
    congr 1
    push_cast [Nat.cast_sub (by omega : w ≤ 253)]
    ring

/-- The least of the powers of two above `t`. -/
def refScale (t : EReal) : EReal :=
  if t < pw 1 then 1 else
    Finset.univ.fold min ⊤ (fun j : Fin 253 => if t < pw (j.val + 2) then pw (j.val + 2) else ⊤)

theorem kScale_eq (a : EReal) (h0 : 0 ≤ a * cInv) (ht : a * cInv < pw 253) : kScale a = refScale (a * cInv) := by
  obtain ⟨w, hw, hlo, hhi, e1, -⟩ := kScale_spec a h0 ht
  rw [e1]
  unfold refScale
  by_cases h : w = 0
  · subst h
    rw [if_pos rfl, if_pos hhi]
  · rw [if_neg h, if_neg (not_lt.2 ((pw_le (by omega : 1 ≤ w)).trans hlo))]
    apply le_antisymm
    · rw [Finset.le_fold_min]
      refine ⟨le_top, fun j _ => ?_⟩
      split
      · next hj =>
        refine pw_le ?_
        by_contra hc
        exact absurd (lt_of_lt_of_le hj ((pw_le (by omega : j.val + 2 ≤ w)).trans hlo)) (lt_irrefl _)
      · exact le_top
    · rw [Finset.fold_min_le]
      refine Or.inr ⟨⟨w - 1, by omega⟩, Finset.mem_univ _, ?_⟩
      have : w - 1 + 2 = w + 1 := by omega
      simp only [this, hhi, if_true, le_refl]

end Cert.KernelIdeal.Hand
-- ==== Proof.Bounds.lean ====
/-
  Finite rows: the two ways of taking the variance agree, and every block's largest magnitude lies where the
  scale search is exact.
-/
module

public import proofs.«01_k».proof.Proof.Scale

@[expose] public section

noncomputable section

namespace Cert.KernelIdeal.Hand

open Idealize.ShloMosaic Idealize.ShloMosaic.TcCoe

/-- The row length. -/
theorem cN_eq : cN = ((10240 : ℝ) : EReal) := by
  simp [cN, Ideal.ofBits, Ideal.ieee]
  rw [← EReal.coe_mul]
  norm_num

/-- The variance's added constant. -/
theorem cEps_eq : cEps = ((10995116 / 2 ^ 40 : ℝ) : EReal) := by
  simp [cEps, Ideal.ofBits, Ideal.ieee]
  rw [← EReal.coe_mul]
  norm_num

/-- The constant 1/448. -/
theorem cInv_eq : cInv = ((9586981 / 2 ^ 32 : ℝ) : EReal) := by
  simp [cInv, Ideal.ofBits, Ideal.ieee]
  rw [← EReal.coe_mul]
  norm_num

/-- Negative infinity. -/
theorem ninf_bits : Ideal.ofBits FTy.f32 0xFF800000#32 = ⊥ := by
  simp [Ideal.ofBits, Ideal.ieee]

/-- A sum of finite numbers is finite. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- A quotient of finite numbers. -/
theorem div_real (x : ℝ) {y : ℝ} (h : y ≠ 0) : Ideal.div (x : EReal) (y : EReal) = ((x / y : ℝ) : EReal) := by
  rw [Ideal.div_coe h, ← EReal.coe_mul, mul_one_div]

/-- The variance as the reference takes it. -/
def rRstd (x : Fin 10240 → EReal) (n pm pq : EReal) : EReal :=
  Ideal.rsqrt (Ideal.div ((∑ k, (x k - locMean x) * (x k - locMean x)) + pq +
    (pm - locMean x) * (pm - locMean x) * Ideal.div (cN * n) (cN + n)) (cN + n) + cEps)

section Row

variable (x : Fin 10240 → ℝ) (n p q : ℝ)

/-- The local mean, in the reals. -/
def muR : ℝ := (∑ k, x k) / 10240

/-- The local mean is finite. -/
theorem locMean_real : locMean (fun k => (x k : EReal)) = ((muR x : ℝ) : EReal) := by
  rw [locMean, sum_coe, cN_eq, div_real _ (by norm_num), muR]

/-- The merged mean, in the reals. -/
def meanR : ℝ := muR x + (p - muR x) * (n / (10240 + n))

/-- The merged mean is finite. -/
theorem kMean_real (hn : 0 ≤ n) : kMean (fun k => (x k : EReal)) n p = ((meanR x n p : ℝ) : EReal) := by
  have h : (10240 + n : ℝ) ≠ 0 := by positivity
  rw [kMean, locMean_real, cN_eq, ← EReal.coe_add, div_real _ h, ← EReal.coe_sub, ← EReal.coe_mul, ← EReal.coe_add, meanR]

/-- The variance with its added constant, in the reals. -/
def varR : ℝ := ((∑ k, (x k - muR x) * (x k - muR x)) + q + (p - muR x) * (p - muR x) * (10240 * n / (10240 + n))) / (10240 + n) +
  10995116 / 2 ^ 40

/-- Sum of squares less sum times mean is the sum of squared deviations. -/
theorem sumsq_real : (∑ k, x k * x k) - (∑ k, x k) * muR x = ∑ k, (x k - muR x) * (x k - muR x) := by
  have h : ∀ k, (x k - muR x) * (x k - muR x) = x k * x k - 2 * muR x * x k + muR x * muR x := fun k => by ring
  have hs : (∑ k, x k) = 10240 * muR x := by rw [muR]; ring
  simp only [h]
  rw [Finset.sum_add_distrib, Finset.sum_sub_distrib, ← Finset.mul_sum, hs, Finset.sum_const, Finset.card_univ, Fintype.card_fin, nsmul_eq_mul]
  push_cast
  ring

/-- The reference's reciprocal deviation, from the real variance. -/
theorem rRstd_real (hn : 0 ≤ n) : rRstd (fun k => (x k : EReal)) n p q = Ideal.rsqrt ((varR x n p q : ℝ) : EReal) := by
  have h : (10240 + n : ℝ) ≠ 0 := by positivity
  simp only [rRstd, locMean_real, cN_eq, cEps_eq, ← EReal.coe_add, ← EReal.coe_sub, ← EReal.coe_mul, sum_coe, div_real _ h]
  rfl

/-- The kernel's reciprocal deviation, from the same real variance. -/
theorem kRstd_real (hn : 0 ≤ n) : kRstd (fun k => (x k : EReal)) n p q = Ideal.rsqrt ((varR x n p q : ℝ) : EReal) := by
  have h : (10240 + n : ℝ) ≠ 0 := by positivity
  simp only [kRstd, locMean_real, cN_eq, cEps_eq, ← EReal.coe_add, ← EReal.coe_sub, ← EReal.coe_mul, sum_coe, div_real _ h, sumsq_real]
  rfl

/-- The variance with its constant is at least the constant. -/
theorem var_ge (hn : 0 ≤ n) (hq : 0 ≤ q) : 10995116 / 2 ^ 40 ≤ varR x n p q := by
  have h3 : 0 ≤ 10240 * n / (10240 + n) := by positivity
  have h4 : 0 ≤ 10240 + n := by positivity
  have h1 : 0 ≤ ∑ k, (x k - muR x) * (x k - muR x) := Finset.sum_nonneg fun k _ => mul_self_nonneg _
  have h2 : 0 ≤ (p - muR x) * (p - muR x) := mul_self_nonneg _
  have : 0 ≤ ((∑ k, (x k - muR x) * (x k - muR x)) + q + (p - muR x) * (p - muR x) * (10240 * n / (10240 + n))) / (10240 + n) :=
    div_nonneg (add_nonneg (add_nonneg h1 hq) (mul_nonneg h2 h3)) h4
  rw [varR]
  linarith

/-- The reciprocal deviation, in the reals. -/
def rstdR : ℝ := (Real.sqrt (varR x n p q))⁻¹

/-- The reciprocal deviation is finite. -/
theorem kRstd_eq (hn : 0 ≤ n) (hq : 0 ≤ q) : kRstd (fun k => (x k : EReal)) n p q = ((rstdR x n p q : ℝ) : EReal) := by
  have h := var_ge x n p q hn hq
  have h0 : 0 < varR x n p q := lt_of_lt_of_le (by norm_num) h
  rw [kRstd_real x n p q hn, Ideal.rsqrt_coe, if_neg h0.not_gt, if_neg h0.ne', rstdR]

/-- The reciprocal deviation is bounded. -/
theorem rstd_le (hn : 0 ≤ n) (hq : 0 ≤ q) : |rstdR x n p q| ≤ 2 ^ 9 := by
  have h := var_ge x n p q hn hq
  have hs : (1 / 2 ^ 9 : ℝ) ≤ Real.sqrt (varR x n p q) := Real.le_sqrt_of_sq_le (le_trans (by norm_num) h)
  rw [rstdR, abs_inv, abs_of_nonneg (Real.sqrt_nonneg _)]
  refine (inv_anti₀ (by norm_num) hs).trans (by norm_num)

variable (hx : ∀ k, |x k| ≤ 2 ^ 50) (hp : |p| ≤ 2 ^ 50)

include hx in
/-- The local mean is bounded. -/
theorem mu_le : |muR x| ≤ 2 ^ 50 := by
  rw [muR, abs_div, abs_of_pos (by norm_num : (0 : ℝ) < 10240), div_le_iff₀ (by norm_num)]
  refine (Finset.abs_sum_le_sum_abs _ _).trans ((Finset.sum_le_sum fun k _ => hx k).trans (le_of_eq ?_))
  rw [Finset.sum_const, Finset.card_univ, Fintype.card_fin, nsmul_eq_mul]
  push_cast
  ring

include hx hp in
/-- The merged mean is bounded. -/
theorem mean_le (hn : 0 ≤ n) : |meanR x n p| ≤ 2 ^ 52 := by
  have hm := mu_le x hx
  have hd : |p - muR x| ≤ 2 ^ 51 := (abs_sub _ _).trans (by linarith)
  have hw : |n / (10240 + n)| ≤ 1 := by
    rw [abs_of_nonneg (by positivity), div_le_one (by positivity)]
    linarith
  have hm2 : |(p - muR x) * (n / (10240 + n))| ≤ 2 ^ 51 * 1 := by
    rw [abs_mul]
    exact mul_le_mul hd hw (abs_nonneg _) (by norm_num)
  rw [meanR]
  exact (abs_add_le _ _).trans (by linarith)

end Row

/-- A normalised entry is bounded. -/
theorem y_le (x m r g b : ℝ) (hx : |x| ≤ 2 ^ 50) (hm : |m| ≤ 2 ^ 52) (hr : |r| ≤ 2 ^ 9) (hg : |g| ≤ 2 ^ 50) (hb : |b| ≤ 2 ^ 50) :
    |(x - m) * r * g + b| ≤ 2 ^ 113 := by
  have h1 : |x - m| ≤ 2 ^ 53 := (abs_sub _ _).trans (by linarith)
  have h2 : |(x - m) * r| ≤ 2 ^ 53 * 2 ^ 9 := by
    rw [abs_mul]
    exact mul_le_mul h1 hr (abs_nonneg _) (by norm_num)
  have h3 : |(x - m) * r * g| ≤ 2 ^ 53 * 2 ^ 9 * 2 ^ 50 := by
    rw [abs_mul]
    exact mul_le_mul h2 hg (abs_nonneg _) (by norm_num)
  exact (abs_add_le _ _).trans (by linarith)

/-- The magnitude of a finite number. -/
theorem absf_coe (y : ℝ) : FloatOps.absf (F := Ideal) (φ := .f32) (y : EReal) = ((|y| : ℝ) : EReal) := by
  show max (y : EReal) (-(y : EReal)) = _
  rw [← EReal.coe_neg]
  exact (EReal.coe_strictMono.monotone.map_max (a := y) (b := -y)).symm

/-- The largest of finitely many bounded magnitudes. -/
theorem kA_bounds (f : Fin 128 → ℝ) (h : ∀ j, |f j| ≤ 2 ^ 113) :
    0 ≤ kA (fun j => (f j : EReal)) * cInv ∧ kA (fun j => (f j : EReal)) * cInv < pw 253 := by
  have h0 : 0 ≤ kA (fun j => (f j : EReal)) := by
    rw [kA, Finset.le_fold_max]
    refine Or.inr ⟨0, Finset.mem_univ _, ?_⟩
    rw [absf_coe]
    exact_mod_cast abs_nonneg _
  have h1 : kA (fun j => (f j : EReal)) ≤ ((2 ^ 113 : ℝ) : EReal) := by
    rw [kA, Finset.fold_max_le, ninf_bits]
    refine ⟨bot_le, fun j _ => ?_⟩
    rw [absf_coe]
    exact EReal.coe_le_coe_iff.2 (h j)
  have hc : (0 : EReal) ≤ cInv := by
    rw [cInv_eq]
    exact EReal.coe_nonneg.2 (by norm_num)
  refine ⟨mul_nonneg h0 hc, lt_of_le_of_lt (mul_le_mul_of_nonneg_right h1 hc) ?_⟩
  rw [cInv_eq, ← EReal.coe_mul, pw_pos (by norm_num), EReal.coe_lt_coe_iff]
  norm_num

end Cert.KernelIdeal.Hand
-- ==== Proof.Lists.lean ====
/-
  The stores of a grid point read back: each list of stores is, piece by piece, a block of one function of the index.
-/
module

public import proofs.«01_k».proof.Proof.Tile
public import Idealize.ShloMosaic.Lib.Pipeline.ReadBack

@[expose] public section

set_option maxRecDepth 65536

noncomputable section

namespace Cert.KernelIdeal.Hand

open Cert.KernelIdeal Cert.KernelIdeal.Gen
open Idealize.ShloMosaic Idealize.ShloMosaic.TcCoe

/-- A unit-stride block of a matrix, placed. -/
theorem emb2 {P Q S T a b : ℕ} (inb) (x : Fin S) (y : Fin T) (hx : a + x.val < P) (hy : b + y.val < Q) :
    (Rect.unit (s := ⟨2, ![P, Q]⟩) ![a, b] ![S, T] inb).emb (ix2 x y) = ix2 ⟨a + x.val, hx⟩ ⟨b + y.val, hy⟩ := by
  funext k
  apply Fin.ext
  rw [Rect.emb_apply]
  fin_cases k <;> simp [ix2]

/-- A unit-stride block of a rank-3 array, placed. -/
theorem emb3 {P Q R S T U a b d : ℕ} (inb) (x : Fin S) (y : Fin T) (z : Fin U) (hx : a + x.val < P) (hy : b + y.val < Q)
    (hz : d + z.val < R) :
    (Rect.unit (s := ⟨3, ![P, Q, R]⟩) ![a, b, d] ![S, T, U] inb).emb (ix3 x y z) =
      ix3 ⟨a + x.val, hx⟩ ⟨b + y.val, hy⟩ ⟨d + z.val, hz⟩ := by
  funext k
  apply Fin.ext
  rw [Rect.emb_apply]
  fin_cases k <;> simp [ix3]

theorem mem2 {P Q S T a b : ℕ} (inb : ∀ k, (![a, b] : Fin 2 → ℕ) k + (![S, T] : Fin 2 → ℕ) k ≤ (⟨2, ![P, Q]⟩ : Shape).size k)
    (x : Fin P) (y : Fin Q) (h : (a ≤ x.val ∧ x.val < a + S) ∧ b ≤ y.val ∧ y.val < b + T) :
    ix2 x y ∈ (Rect.unit (s := ⟨2, ![P, Q]⟩) ![a, b] ![S, T] inb).set := by
  refine (Rect.mem_set_unit (inb := inb)).2 fun k => ?_
  fin_cases k
  · exact h.1
  · exact h.2

theorem mem3 {P Q R S T U a b d : ℕ}
    (inb : ∀ k, (![a, b, d] : Fin 3 → ℕ) k + (![S, T, U] : Fin 3 → ℕ) k ≤ (⟨3, ![P, Q, R]⟩ : Shape).size k)
    (x : Fin P) (y : Fin Q) (z : Fin R)
    (h : (a ≤ x.val ∧ x.val < a + S) ∧ (b ≤ y.val ∧ y.val < b + T) ∧ d ≤ z.val ∧ z.val < d + U) :
    ix3 x y z ∈ (Rect.unit (s := ⟨3, ![P, Q, R]⟩) ![a, b, d] ![S, T, U] inb).set := by
  refine (Rect.mem_set_unit (inb := inb)).2 fun k => ?_
  fin_cases k
  · exact h.1
  · exact h.2.1
  · exact h.2.2

section Y

variable (X : S1x128x10240.Idx → Elt Ideal .bf16) (M : S2x128x1.Idx → Elt Ideal .f32) (G B : S1x10240.Idx → Elt Ideal .f32)

/-- The normalised tile. -/
def gY (r : Fin 128) (c : Fin 10240) : EReal :=
  kY (X (ix3 0 r c)) (M (ix3 0 r 0)) (M (ix3 1 r 0)) (G (ix2 0 c)) (B (ix2 0 c))

/-- The block maxima (a column counts modulo the number of blocks). -/
def gA (r k : Fin 128) : EReal :=
  kA (fun c => gY X M G B r ⟨128 * (k.val % 80) + c.val, by have := c.isLt; omega⟩)

theorem yPiece_eq (n : ℕ) (h : n < 160) (x : (yPiece X M G B n h).1.shape.Idx) :
    (yPiece X M G B n h).2 x = (fun j : S128x10240.Idx => gY X M G B (j 0) (j 1)) ((yPiece X M G B n h).1.emb x) := by
  unfold yPiece
  change S64x128.Idx at x
  idx_vars x
  refine (pay104_at _ _ _ _ _ _ _).trans ?_
  erw [emb2 _ x0 x1 (by omega) (by omega)]
  unfold gY
  pointwise

theorem yList_pieces : ∀ (n : ℕ) (h : n ≤ 160),
    View.PiecesOf (fun j : S128x10240.Idx => gY X M G B (j 0) (j 1)) (yList X M G B n h)
  | 0, _ => trivial
  | n + 1, h => ⟨yPiece_eq X M G B n h, yList_pieces n (Nat.le_of_succ_le h)⟩

theorem yList_mem (k : ℕ) : ∀ (n : ℕ) (h : n ≤ 160) (hk : k < n), yPiece X M G B k (by omega) ∈ yList X M G B n h
  | n + 1, h, hk => by
    rcases Nat.lt_succ_iff_lt_or_eq.1 hk with hk | rfl
    · exact List.mem_cons_of_mem _ (yList_mem k n _ hk)
    · exact List.mem_cons_self

/-- The normalised tile, read back. -/
theorem yList_canon (r : Fin 128) (c : Fin 10240) :
    View.canon (Val := Elt Ideal) (yList X M G B 160 le_rfl) (ix2 r c) = gY X M G B r c := by
  have := View.canon_append_of_piecesOf (Val := Elt Ideal) (fun j : S128x10240.Idx => gY X M G B (j 0) (j 1)) [] _
    (yList_pieces X M G B 160 le_rfl) (ix2 r c)
    ⟨_, yList_mem X M G B (80 * (r.val / 64) + c.val / 128) 160 le_rfl (by omega), by
      unfold yPiece
      exact mem2 (by intro a; fin_cases a <;> simp <;> omega) _ _ (by simp; omega)⟩
  rwa [List.append_nil] at this

theorem aPiece_eq (n : ℕ) (h : n < 160) (x : (aPiece X M G B n h).1.shape.Idx) :
    (aPiece X M G B n h).2 x = (fun j : S128x128.Idx => gA X M G B (j 0) (j 1)) ((aPiece X M G B n h).1.emb x) := by
  unfold aPiece
  change S64x1.Idx at x
  idx_vars x
  obtain rfl : x1 = 0 := Subsingleton.elim _ _
  refine (pay106_at _ _ _ _ _ _).trans ?_
  erw [emb2 _ x0 (0 : Fin 1) (by omega) (by simp; omega)]
  unfold gA gY
  pointwise
  simp only [Nat.mod_mod]

/-- The stores of the block maxima alone. -/
theorem aList_split (T : List (View.Piece (Elt Ideal) S128x128 .f32)) : ∀ (n : ℕ) (h : n ≤ 160),
    aList X M G B T n h = aList X M G B [] n h ++ T
  | 0, _ => rfl
  | n + 1, h => by rw [aList, aList, aList_split T n, List.cons_append]

theorem aList_pieces : ∀ (n : ℕ) (h : n ≤ 160),
    View.PiecesOf (fun j : S128x128.Idx => gA X M G B (j 0) (j 1)) (aList X M G B [] n h)
  | 0, _ => trivial
  | n + 1, h => ⟨aPiece_eq X M G B n h, aList_pieces n (Nat.le_of_succ_le h)⟩

theorem aList_mem (k : ℕ) (T : List (View.Piece (Elt Ideal) S128x128 .f32)) : ∀ (n : ℕ) (h : n ≤ 160) (hk : k < n),
    aPiece X M G B k (by omega) ∈ aList X M G B T n h
  | n + 1, h, hk => by
    rcases Nat.lt_succ_iff_lt_or_eq.1 hk with hk | rfl
    · exact List.mem_cons_of_mem _ (aList_mem k T n _ hk)
    · exact List.mem_cons_self

theorem aPiece_cov (r k : Fin 128) (hk : k.val < 80) :
    ix2 r k ∈ (aPiece X M G B (80 * (r.val / 64) + k.val) (by omega)).1.set := by
  unfold aPiece
  exact mem2 (by intro a; fin_cases a <;> simp <;> omega) _ _ (by simp; omega)

/-- The block maxima, read back over any earlier stores, at the columns that hold one. -/
theorem aList_canon (T : List (View.Piece (Elt Ideal) S128x128 .f32)) (r k : Fin 128) (hk : k.val < 80) :
    View.canon (Val := Elt Ideal) (aList X M G B T 160 le_rfl) (ix2 r k) = gA X M G B r k := by
  rw [aList_split]
  exact View.canon_append_of_piecesOf (Val := Elt Ideal) (fun j : S128x128.Idx => gA X M G B (j 0) (j 1)) T _
    (aList_pieces X M G B 160 le_rfl) (ix2 r k)
    ⟨_, aList_mem X M G B (80 * (r.val / 64) + k.val) [] 160 le_rfl (by omega), aPiece_cov X M G B r k hk⟩

theorem aList_cov (T : List (View.Piece (Elt Ideal) S128x128 .f32)) (r k : Fin 128) (hk : k.val < 80) :
    ∃ p ∈ aList X M G B T 160 le_rfl, (ix2 r k : S128x128.Idx) ∈ p.1.set :=
  ⟨_, aList_mem X M G B (80 * (r.val / 64) + k.val) T 160 le_rfl (by omega), aPiece_cov X M G B r k hk⟩

end Y

section C

variable (I : FVec Ideal S128x128 .bf16) (E : S128x10240.Idx → Elt Ideal .bf16) (Y : S128x10240.Idx → Elt Ideal .f32)

/-- The codes. -/
def gC (r : Fin 128) (c : Fin 10240) : EReal := kQ (Y (ix2 r c)) (∑ x : Fin 128, I (ix2 r x) * E (ix2 x c))

theorem cPiece_eq (n : ℕ) (h : n < 40) (x : (cPiece I E Y n h).1.shape.Idx) :
    (cPiece I E Y n h).2 x = (fun j : S1x128x10240.Idx => gC I E Y (j 1) (j 2)) ((cPiece I E Y n h).1.emb x) := by
  unfold cPiece
  change S1x128x256.Idx at x
  idx_vars x
  obtain rfl : x0 = 0 := Subsingleton.elim _ _
  refine (pay667_at _ _ _ _ _).trans ?_
  erw [emb3 _ (0 : Fin 1) x1 x2 (by simp) (by omega) (by omega)]
  unfold gC
  pointwise

theorem cList_pieces : ∀ (n : ℕ) (h : n ≤ 40),
    View.PiecesOf (fun j : S1x128x10240.Idx => gC I E Y (j 1) (j 2)) (cList I E Y n h)
  | 0, _ => trivial
  | n + 1, h => ⟨cPiece_eq I E Y n h, cList_pieces n (Nat.le_of_succ_le h)⟩

theorem cList_mem (k : ℕ) : ∀ (n : ℕ) (h : n ≤ 40) (hk : k < n), cPiece I E Y k (by omega) ∈ cList I E Y n h
  | n + 1, h, hk => by
    rcases Nat.lt_succ_iff_lt_or_eq.1 hk with hk | rfl
    · exact List.mem_cons_of_mem _ (cList_mem k n _ hk)
    · exact List.mem_cons_self

/-- The codes, read back. -/
theorem cList_canon (r : Fin 128) (c : Fin 10240) :
    View.canon (Val := Elt Ideal) (cList I E Y 40 le_rfl) (ix3 0 r c) = gC I E Y r c := by
  have := View.canon_append_of_piecesOf (Val := Elt Ideal) (fun j : S1x128x10240.Idx => gC I E Y (j 1) (j 2)) [] _
    (cList_pieces I E Y 40 le_rfl) (ix3 0 r c)
    ⟨_, cList_mem I E Y (c.val / 256) 40 le_rfl (by omega), by
      unfold cPiece
      exact mem3 (by intro a; fin_cases a <;> simp <;> omega) _ _ _ (by simp; omega)⟩
  rwa [List.append_nil] at this

end C

section E

/-- The expansion matrix: row `k` is one on the columns of block `k`. -/
def gE (k : Fin 128) (c : Fin 10240) : EReal := if k.val = c.val / 128 then 1 else 0

theorem ePiece_eq (n : ℕ) (h : n < 80) (x : (ePiece (F := Ideal) n h).1.shape.Idx) :
    (ePiece (F := Ideal) n h).2 x = (fun j : S128x10240.Idx => gE (j 0) (j 1)) ((ePiece (F := Ideal) n h).1.emb x) := by
  unfold ePiece
  change S128x128.Idx at x
  idx_vars x
  erw [emb2 _ x0 x1 (by omega) (by omega)]
  unfold gE
  pointwise
  rw [cmp_eq_ofNat _ _ (by omega) (by omega), sel_ite]
  have : (128 * n + x1.val) / 128 = n := by omega
  simp [this]

theorem eList_pieces : ∀ (n : ℕ) (h : n ≤ 80),
    View.PiecesOf (fun j : S128x10240.Idx => gE (j 0) (j 1)) (eList (F := Ideal) n h)
  | 0, _ => trivial
  | n + 1, h => ⟨ePiece_eq n h, eList_pieces n (Nat.le_of_succ_le h)⟩

theorem eList_mem (k : ℕ) : ∀ (n : ℕ) (h : n ≤ 80) (hk : k < n), ePiece (F := Ideal) k (by omega) ∈ eList n h
  | n + 1, h, hk => by
    rcases Nat.lt_succ_iff_lt_or_eq.1 hk with hk | rfl
    · exact List.mem_cons_of_mem _ (eList_mem k n _ hk)
    · exact List.mem_cons_self

/-- The expansion matrix, read back. -/
theorem eList_canon (k : Fin 128) (c : Fin 10240) :
    View.canon (Val := Elt Ideal) (eList (F := Ideal) 80 le_rfl) (ix2 k c) = gE k c := by
  have := View.canon_append_of_piecesOf (Val := Elt Ideal) (fun j : S128x10240.Idx => gE (j 0) (j 1)) [] _
    (eList_pieces 80 le_rfl) (ix2 k c)
    ⟨_, eList_mem (c.val / 128) 80 le_rfl (by omega), by
      unfold ePiece
      exact mem2 (by intro a; fin_cases a <;> simp <;> omega) _ _ (by simp; omega)⟩
  rwa [List.append_nil] at this

/-- The reciprocal scales against the expansion matrix: each column takes its block's, whatever the unused columns hold. -/
theorem expand_sum (f : Fin 128 → EReal) (c : Fin 10240) :
    (∑ x : Fin 128, f x * gE x c) = f ⟨c.val / 128, by omega⟩ := by
  rw [Finset.sum_eq_single (⟨c.val / 128, by omega⟩ : Fin 128)]
  · simp [gE]
  · intro q _ hq
    have : ¬ q.val = c.val / 128 := fun e => hq (Fin.ext e)
    simp [gE, this]
  · simp

end E

end Cert.KernelIdeal.Hand
-- ==== Proof.Point.lean ====
/-
  What one grid point leaves in its outputs and in the scratch it carries, entry by entry, in both of the body's cases.
-/
module

public import proofs.«01_k».proof.Proof.Lists
public import proofs.«01_k».proof.Proof.Gen.KernelIdeal.Frame

@[expose] public section

set_option maxRecDepth 65536

noncomputable section

namespace Cert.KernelIdeal.Hand

open Cert.KernelIdeal Cert.KernelIdeal.Gen
open Idealize.ShloMosaic Idealize.ShloMosaic.TcCoe
open Idealize.SL Idealize.SL.Sem

/-- The batch row of a grid point. -/
def gb (i : grid0.Coords) : Fin 3 := ⟨(i 0).val, by have := (i 0).isLt; simp [grid0] at this; omega⟩
/-- The tile of a grid point. -/
def gt (i : grid0.Coords) : Fin 5 := ⟨(i 1).val, by have := (i 1).isLt; simp [grid0] at this; omega⟩
/-- The sequence position of a tile's row. -/
def gs (i : grid0.Coords) (r : Fin 128) : Fin 640 := ⟨128 * (gt i).val + r.val, by have := (gt i).isLt; omega⟩

section Vals

variable (i : grid0.Coords) (x0 : Vec Ideal S1 .f32) (x1 : Vec Ideal S1x128x10240 .bf16) (x2 x3 : Vec Ideal S1x3x640 .f32)
  (x4 x5 : Vec Ideal S1x10240 .f32)

/-- The merged mean of a tile's row. -/
def tM (r : Fin 128) : EReal := kMean (fun k => x1 (ix3 0 r k)) (x0 (ix1 0)) (x2 (ix3 0 (gb i) (gs i r)))
/-- The merged reciprocal deviation of a tile's row. -/
def tR (r : Fin 128) : EReal :=
  kRstd (fun k => x1 (ix3 0 r k)) (x0 (ix1 0)) (x2 (ix3 0 (gb i) (gs i r))) (x3 (ix3 0 (gb i) (gs i r)))
/-- The normalised tile. -/
def tY (r : Fin 128) (c : Fin 10240) : EReal :=
  kY (x1 (ix3 0 r c)) (tM i x0 x1 x2 r) (tR i x0 x1 x2 x3 r) (x4 (ix2 0 c)) (x5 (ix2 0 c))
/-- The tile's block maxima. -/
def tA (r k : Fin 128) : EReal :=
  kA (fun c => tY i x0 x1 x2 x3 x4 x5 r ⟨128 * (k.val % 80) + c.val, by have := c.isLt; omega⟩)

theorem cnt_at :
    (View.ld x0 (Rect.unit ![0] S1.size inb_S1_S1_0)) (Shape.Idx.first (by decide)) = x0 (ix1 0) := by
  rw [View.ld_unit_zero (by funext a; fin_cases a; rfl)]
  congr 1
  funext a
  fin_cases a
  rfl

theorem ld_rows : View.ld x1 (Rect.unit ![0, 0, 0] S1x128x10240.size inb_S1x128x10240_S1x128x10240_0_0_0) = x1 :=
  View.ld_unit_zero (by funext a; fin_cases a <;> rfl) _ _

theorem lanes1_emb (b : Fin 3) (r : Fin 128) :
    (Rect.unit (s := S1x3x640) (k0_off1 i) S1x3x128.size (k0_off1_inb i)).emb (ix3 0 b r) = ix3 0 b (gs i r) := by
  have h := k0_off1_eq i
  funext a
  apply Fin.ext
  rw [Rect.emb_apply, Rect.off_unit, Rect.stride_unit]
  refine (congrArg (fun o : Fin 3 → ℕ => o a + 1 * (ix3 (0 : Fin 1) b r a).val) h).trans ?_
  fin_cases a <;> simp [ix3, gs, gt]

theorem pm_at (x : Vec Ideal S1x3x640 .f32) (r : Fin 128) :
    (View.ld x (Rect.unit (k0_off1 i) S1x3x128.size (k0_off1_inb i))) (ix3 0 (gb i) r) = x (ix3 0 (gb i) (gs i r)) := by
  exact congrArg x (lanes1_emb i (gb i) r)

theorem pay94_tile (r : Fin 128) :
    k0_pay94 (F := Ideal) (k0_pay88 x1) (x0 (ix1 0)) (k0_pay91 i (View.ld x2 (Rect.unit (k0_off1 i) S1x3x128.size (k0_off1_inb i))))
      (ix2 0 r) = tM i x0 x1 x2 r := by
  rw [pay94_at _ _ _ i r (gb i) rfl, pm_at]
  rfl

theorem pay95_tile (r : Fin 128) :
    k0_pay95 (F := Ideal) (k0_pay88 x1) (k0_pay89 x1) (k0_pay90 i) (x0 (ix1 0))
      (k0_pay91 i (View.ld x2 (Rect.unit (k0_off1 i) S1x3x128.size (k0_off1_inb i))))
      (View.ld x3 (Rect.unit (k0_off1 i) S1x3x128.size (k0_off1_inb i)))
      (ix2 0 r) = tR i x0 x1 x2 x3 r := by
  rw [pay95_at _ _ _ _ i r (gb i) rfl, pm_at, pm_at]
  rfl

theorem col0 (P1 P0 : S1x128x1.Idx → Elt Ideal .f32) (h1 h0) (r : Fin 128) :
    View.canon (Val := Elt Ideal) (s := S2x128x1) (e := .f32) [⟨Rect.unit ![1, 0, 0] S1x128x1.size h1, P1⟩, ⟨Rect.unit ![0, 0, 0] S1x128x1.size h0, P0⟩]
      (ix3 0 r 0) = P0 (ix3 0 r 0) := by
  rw [View.canon_cons_of_not_mem]
  · have e : (ix3 0 r 0 : S2x128x1.Idx) = (Rect.unit (s := S2x128x1) ![0, 0, 0] S1x128x1.size h0).emb (ix3 0 r 0) := by
      erw [emb3 _ (0 : Fin 1) r (0 : Fin 1) (by simp) (by simp) (by simp)]
      simp
    rw [e]
    exact View.canon_cons_emb _ _ _ _
  · intro h
    have := ((Rect.mem_set_unit (inb := h1)).1 h 0).1
    simp [ix3] at this

theorem col1 (P1 P0 : S1x128x1.Idx → Elt Ideal .f32) (h1 h0) (r : Fin 128) :
    View.canon (Val := Elt Ideal) (s := S2x128x1) (e := .f32) [⟨Rect.unit ![1, 0, 0] S1x128x1.size h1, P1⟩, ⟨Rect.unit ![0, 0, 0] S1x128x1.size h0, P0⟩]
      (ix3 1 r 0) = P1 (ix3 0 r 0) := by
  have e : (ix3 1 r 0 : S2x128x1.Idx) = (Rect.unit (s := S2x128x1) ![1, 0, 0] S1x128x1.size h1).emb (ix3 0 r 0) := by
    erw [emb3 _ (0 : Fin 1) r (0 : Fin 1) (by simp) (by simp) (by simp)]
    simp
  rw [e]
  exact View.canon_cons_emb _ _ _ _

/-- The lanes a point stores its mean and deviation in. -/
theorem lanes_emb (b : Fin 3) (r : Fin 128) :
    (Rect.unit (s := S3x640) (k0_off2 i) S3x128.size (k0_off2_inb i)).emb (ix2 b r) = ix2 b (gs i r) := by
  funext a
  apply Fin.ext
  rw [Rect.emb_apply, Rect.off_unit, Rect.stride_unit]
  refine (congrArg (fun o : Fin 2 → ℕ => o a + 1 * (ix2 b r a).val) (k0_off2_eq i)).trans ?_
  fin_cases a <;> simp [ix2, gs, gt]

theorem lanes_mem (b : Fin 3) (s : Fin 640) :
    (ix2 b s : S3x640.Idx) ∈ (Rect.unit (s := S3x640) (k0_off2 i) S3x128.size (k0_off2_inb i)).set ↔ s.val / 128 = (gt i).val := by
  rw [Rect.mem_set_unit]
  constructor
  · intro h
    have := h 1
    rw [k0_off2_eq] at this
    simp [ix2] at this
    simp only [gt]
    omega
  · intro h a
    rw [k0_off2_eq]
    simp only [gt] at h
    fin_cases a <;> simp [ix2]; omega

/-- A store of one point's rows into an array of all rows, over earlier contents. -/
theorem lanes_read {κ sp} (m : View sig κ sp S3x640 .f32) (f : m.ty.Contents (Elt Ideal)) (b : Fin 3) (s : Fin 640)
    (P : S3x128.Idx → Elt Ideal .f32) (T : List (View.Piece (Elt Ideal) S3x640 .f32))
    (prev : Fin 3 → Fin 640 → EReal) (val : Fin 128 → EReal)
    (hT : ∀ b s, m.read (Elt Ideal) (m.writes (Elt Ideal) f T) (ix2 b s) = prev b s)
    (hP : ∀ b r, P (ix2 b r) = if b.val = (i 0).val then val r else prev b (gs i r)) :
    m.read (Elt Ideal) (m.writes (Elt Ideal) f
        ((⟨Rect.unit (s := S3x640) (k0_off2 i) S3x128.size (k0_off2_inb i), P⟩ : View.Piece (Elt Ideal) S3x640 .f32) :: T)) (ix2 b s) =
      if b = gb i ∧ s.val / 128 = (gt i).val then val ⟨s.val % 128, by omega⟩ else prev b s := by
  by_cases hs : s.val / 128 = (gt i).val
  · have e : s = gs i ⟨s.val % 128, by omega⟩ := Fin.ext (by simp only [gs]; omega)
    have e2 := lanes_emb i b ⟨s.val % 128, by omega⟩
    rw [← e] at e2
    have h := View.read_writes_cons_emb m f (Rect.unit (s := S3x640) (k0_off2 i) S3x128.size (k0_off2_inb i)) P T
      (ix2 b ⟨s.val % 128, by omega⟩)
    rw [e2] at h
    rw [h, hP, ← e]
    have : b = gb i ↔ b.val = (i 0).val := Fin.ext_iff
    simp only [this, hs, and_true]
  · rw [View.writes_cons, ← View.writes_singleton, View.read_writes_apply_of_forall_not_mem, hT, if_neg (fun h => hs h.2)]
    intro p hp
    rw [List.mem_singleton] at hp
    subst hp
    exact fun h => hs ((lanes_mem i b s).1 h)

theorem pay96_B (xo : Vec Ideal S3x640 .f32) (b : Fin 3) (r : Fin 128) :
    k0_pay96 (F := Ideal) (k0_pay88 x1) (k0_pay90 i) (x0 (ix1 0)) (k0_pay91 i (View.ld x2 (Rect.unit (k0_off1 i) S1x3x128.size (k0_off1_inb i)))) (View.ld xo (Rect.unit (k0_off2 i) S3x128.size (k0_off2_inb i))) (ix2 b r) =
      if b.val = (i 0).val then tM i x0 x1 x2 r else xo (ix2 b (gs i r)) := by
  have e : View.ld xo (Rect.unit (k0_off2 i) S3x128.size (k0_off2_inb i)) (ix2 b r) = xo (ix2 b (gs i r)) := congrArg xo (lanes_emb i b r)
  rw [pay96_at, pay94_tile, e]

theorem pay97_B (xo : Vec Ideal S3x640 .f32) (b : Fin 3) (r : Fin 128) :
    k0_pay97 (F := Ideal) (k0_pay88 x1) (k0_pay89 x1) (k0_pay90 i) (x0 (ix1 0)) (k0_pay91 i (View.ld x2 (Rect.unit (k0_off1 i) S1x3x128.size (k0_off1_inb i)))) (View.ld x3 (Rect.unit (k0_off1 i) S1x3x128.size (k0_off1_inb i))) (View.ld xo (Rect.unit (k0_off2 i) S3x128.size (k0_off2_inb i))) (ix2 b r) =
      if b.val = (i 0).val then tR i x0 x1 x2 x3 r else xo (ix2 b (gs i r)) := by
  have e : View.ld xo (Rect.unit (k0_off2 i) S3x128.size (k0_off2_inb i)) (ix2 b r) = xo (ix2 b (gs i r)) := congrArg xo (lanes_emb i b r)
  rw [pay97_at, pay95_tile, e]

end Vals

theorem whole0 {n : ℕ} : (fun a : Fin n => 0) = fun _ => 0 := rfl

section CaseB

variable (c : Dev nD) (i : grid0.Coords) (arg2 : Memref sig .tc .smem S1 .f32) (harg2 : arg2.IsWhole) (arg3 : Memref sig .tc .vmem S1x128x10240 .bf16) (harg3 : arg3.IsWhole) (arg4 : Memref sig .tc .vmem S1x3x640 .f32) (harg4 : arg4.IsWhole) (arg5 : Memref sig .tc .vmem S1x3x640 .f32) (harg5 : arg5.IsWhole) (arg6 : Memref sig .tc .vmem S1x10240 .f32) (harg6 : arg6.IsWhole) (arg7 : Memref sig .tc .vmem S1x10240 .f32) (harg7 : arg7.IsWhole) (arg8 : Memref sig .tc .vmem S1x128x10240 .fp8e4m3) (harg8 : arg8.IsWhole) (arg9 : Memref sig .tc .vmem S1x128x80 .f32) (harg9 : arg9.IsWhole) (arg10 : Memref sig .tc .vmem S3x640 .f32) (harg10 : arg10.IsWhole) (arg11 : Memref sig .tc .vmem S3x640 .f32) (harg11 : arg11.IsWhole) (arg12 : Memref sig .tc .vmem S128x10240 .f32) (harg12 : arg12.IsWhole) (arg13 : Memref sig .tc .vmem S128x128 .f32) (harg13 : arg13.IsWhole) (arg14 : Memref sig .tc .vmem S128x10240 .bf16) (harg14 : arg14.IsWhole) (arg15 : Memref sig .tc .vmem S2x128x1 .f32) (harg15 : arg15.IsWhole) (hc0 : ¬cond0_0 i)
    (x0 : Vec Ideal S1 .f32) (x1 : Vec Ideal S1x128x10240 .bf16) (x2 : Vec Ideal S1x3x640 .f32) (x3 : Vec Ideal S1x3x640 .f32) (x4 : Vec Ideal S1x10240 .f32) (x5 : Vec Ideal S1x10240 .f32) (xo8 : Vec Ideal S3x640 .f32) (xo9 : Vec Ideal S3x640 .f32) (xs1 : Vec Ideal S128x128 .f32) (xs2 : Vec Ideal S128x10240 .bf16)

/-- Case B: the mean and the reciprocal deviation as columns. -/
theorem col0_B (r : Fin 128) :
    (arg15.view.read (Elt Ideal) (arg15.view.writes (Elt Ideal) arg15.view.junk (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo8 xo9 xs1 xs2).2.2.2.2.2.2.2.1)) (ix3 0 r 0) = tM i x0 x1 x2 r := by
  rw [View.read_writes_junk_eq_canon, LT3_B]
  refine (col0 _ _ _ _ r).trans ?_
  rw [pay99_at]
  simp only [Memref.IsWhole.read_unread]
  rw [ld_rows x1, cnt_at x0]
  exact pay94_tile i x0 x1 x2 r

theorem col1_B (r : Fin 128) :
    (arg15.view.read (Elt Ideal) (arg15.view.writes (Elt Ideal) arg15.view.junk (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo8 xo9 xs1 xs2).2.2.2.2.2.2.2.1)) (ix3 1 r 0) = tR i x0 x1 x2 x3 r := by
  rw [View.read_writes_junk_eq_canon, LT3_B]
  refine (col1 _ _ _ _ r).trans ?_
  rw [pay100_at]
  simp only [Memref.IsWhole.read_unread]
  rw [ld_rows x1, cnt_at x0]
  exact pay95_tile i x0 x1 x2 x3 r

theorem gY_B (r : Fin 128) (c' : Fin 10240) :
    gY x1 (arg15.view.read (Elt Ideal) (arg15.view.writes (Elt Ideal) arg15.view.junk (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo8 xo9 xs1 xs2).2.2.2.2.2.2.2.1)) x4 x5 r c' = tY i x0 x1 x2 x3 x4 x5 r c' := by
  exact congrArg₂ (fun m d => kY (x1 (ix3 0 r c')) m d (x4 (ix2 0 c')) (x5 (ix2 0 c'))) (col0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo8 xo9 xs1 xs2 r) (col1_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo8 xo9 xs1 xs2 r)

theorem gA_B (r k : Fin 128) :
    gA x1 (arg15.view.read (Elt Ideal) (arg15.view.writes (Elt Ideal) arg15.view.junk (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo8 xo9 xs1 xs2).2.2.2.2.2.2.2.1)) x4 x5 r k = tA i x0 x1 x2 x3 x4 x5 r k := by
  unfold gA tA
  exact congrArg kA (funext fun c' => gY_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo8 xo9 xs1 xs2 r _)

/-- Case B: the normalised tile. -/
theorem y_B (r : Fin 128) (c' : Fin 10240) :
    (arg12.view.read (Elt Ideal) (arg12.view.writes (Elt Ideal) arg12.view.junk (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo8 xo9 xs1 xs2).2.2.2.2.2.2.1)) (ix2 r c') = tY i x0 x1 x2 x3 x4 x5 r c' := by
  rw [View.read_writes_junk_eq_canon, LT0_B]
  refine (yList_canon _ _ _ _ r c').trans ?_
  simp only [Memref.IsWhole.read_unread]
  exact gY_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo8 xo9 xs1 xs2 r c'

/-- Case B: the block maxima. -/
theorem a_B (r k : Fin 128) (hk : k.val < 80) :
    (arg13.view.read (Elt Ideal) (arg13.view.writes (Elt Ideal) (harg13.unread xs1) (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo8 xo9 xs1 xs2).2.2.2.2.1)) (ix2 r k) = tA i x0 x1 x2 x3 x4 x5 r k := by
  rw [LS1_B]
  refine (View.read_writes_apply_eq_canon _ _ _ _ (aList_cov _ _ _ _ _ r k hk)).trans ?_
  refine (aList_canon _ _ _ _ _ r k hk).trans ?_
  simp only [Memref.IsWhole.read_unread]
  exact gA_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo8 xo9 xs1 xs2 r k

/-- Case B: the scales. -/
theorem out7_B (r : Fin 128) (k : Fin 80) :
    out0_B_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo8 xo9 xs1 xs2 (ix3 0 r k) = kScale (tA i x0 x1 x2 x3 x4 x5 r ⟨k.val, by omega⟩) := by
  unfold out0_B_7
  rw [View.read_writes_junk_eq_canon, L7_B, View.canon_unit_zero (by funext a; fin_cases a <;> rfl)]
  refine (pay663_at _ r k).trans ?_
  rw [View.ld_unit_zero (by funext a; fin_cases a <;> rfl)]
  exact congrArg kScale (a_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo8 xo9 xs1 xs2 r ⟨k.val, by omega⟩ k.isLt)

/-- Case B: the codes. -/
theorem out6_B (hE : ∀ k c, xs2 (ix2 k c) = gE k c) (r : Fin 128) (c' : Fin 10240) :
    out0_B_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo8 xo9 xs1 xs2 (ix3 0 r c') =
      kQ (tY i x0 x1 x2 x3 x4 x5 r c') (kInv (tA i x0 x1 x2 x3 x4 x5 r ⟨c'.val / 128, by omega⟩)) := by
  unfold out0_B_6
  rw [View.read_writes_junk_eq_canon, L6_B]
  refine (cList_canon _ _ _ r c').trans ?_
  refine congrArg₂ kQ (y_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo8 xo9 xs1 xs2 r c') ?_
  refine (Finset.sum_congr rfl fun x _ => ?_).trans ((expand_sum (fun x => kInv ((arg13.view.read (Elt Ideal) (arg13.view.writes (Elt Ideal) (harg13.unread xs1) (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo8 xo9 xs1 xs2).2.2.2.2.1)) (ix2 r x))) c').trans
    (congrArg kInv (a_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo8 xo9 xs1 xs2 r ⟨c'.val / 128, by omega⟩ (by show c'.val / 128 < 80; omega))))
  refine congrArg₂ (· * ·) ?_ ?_
  · refine (pay664_at _ _).trans ?_
    rw [View.ld_unit_zero (by funext a; fin_cases a <;> rfl)]
  · rw [Memref.IsWhole.read_unread]
    exact hE x c'

/-- Case B: the mean. -/
theorem out8_B (b : Fin 3) (s : Fin 640) :
    out0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo8 xo9 xs1 xs2 (ix2 b s) =
      if b = gb i ∧ s.val / 128 = (gt i).val then tM i x0 x1 x2 ⟨s.val % 128, by omega⟩ else xo8 (ix2 b s) := by
  unfold out0_B_8
  rw [L8_B]
  simp only [Memref.IsWhole.read_unread]
  rw [ld_rows x1, cnt_at x0]
  refine lanes_read i _ _ b s _ [] (fun b s => xo8 (ix2 b s)) (tM i x0 x1 x2) (fun b s => ?_) (fun b r => ?_)
  · exact congrFun (harg10.read_unread xo8) (ix2 b s)
  · exact pay96_B i x0 x1 x2 xo8 b r

/-- Case B: the reciprocal deviation. -/
theorem out9_B (b : Fin 3) (s : Fin 640) :
    out0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xo8 xo9 xs1 xs2 (ix2 b s) =
      if b = gb i ∧ s.val / 128 = (gt i).val then tR i x0 x1 x2 x3 ⟨s.val % 128, by omega⟩ else xo9 (ix2 b s) := by
  unfold out0_B_9
  rw [L9_B]
  simp only [Memref.IsWhole.read_unread]
  rw [ld_rows x1, cnt_at x0]
  refine lanes_read i _ _ b s _ [] (fun b s => xo9 (ix2 b s)) (tR i x0 x1 x2 x3) (fun b s => ?_) (fun b r => ?_)
  · exact congrFun (harg11.read_unread xo9) (ix2 b s)
  · exact pay97_B i x0 x1 x2 x3 xo9 b r

end CaseB

section CaseA

variable (c : Dev nD) (i : grid0.Coords) (arg2 : Memref sig .tc .smem S1 .f32) (harg2 : arg2.IsWhole) (arg3 : Memref sig .tc .vmem S1x128x10240 .bf16) (harg3 : arg3.IsWhole) (arg4 : Memref sig .tc .vmem S1x3x640 .f32) (harg4 : arg4.IsWhole) (arg5 : Memref sig .tc .vmem S1x3x640 .f32) (harg5 : arg5.IsWhole) (arg6 : Memref sig .tc .vmem S1x10240 .f32) (harg6 : arg6.IsWhole) (arg7 : Memref sig .tc .vmem S1x10240 .f32) (harg7 : arg7.IsWhole) (arg8 : Memref sig .tc .vmem S1x128x10240 .fp8e4m3) (harg8 : arg8.IsWhole) (arg9 : Memref sig .tc .vmem S1x128x80 .f32) (harg9 : arg9.IsWhole) (arg10 : Memref sig .tc .vmem S3x640 .f32) (harg10 : arg10.IsWhole) (arg11 : Memref sig .tc .vmem S3x640 .f32) (harg11 : arg11.IsWhole) (arg12 : Memref sig .tc .vmem S128x10240 .f32) (harg12 : arg12.IsWhole) (arg13 : Memref sig .tc .vmem S128x128 .f32) (harg13 : arg13.IsWhole) (arg14 : Memref sig .tc .vmem S128x10240 .bf16) (harg14 : arg14.IsWhole) (arg15 : Memref sig .tc .vmem S2x128x1 .f32) (harg15 : arg15.IsWhole) (hc0 : cond0_0 i)
    (x0 : Vec Ideal S1 .f32) (x1 : Vec Ideal S1x128x10240 .bf16) (x2 : Vec Ideal S1x3x640 .f32) (x3 : Vec Ideal S1x3x640 .f32) (x4 : Vec Ideal S1x10240 .f32) (x5 : Vec Ideal S1x10240 .f32)

/-- Case A: the mean and the reciprocal deviation as columns. -/
theorem col0_A (r : Fin 128) :
    (arg15.view.read (Elt Ideal) (arg15.view.writes (Elt Ideal) arg15.view.junk (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.2.2.2.2.2.2.1)) (ix3 0 r 0) = tM i x0 x1 x2 r := by
  rw [View.read_writes_junk_eq_canon, LT3_A]
  refine (col0 _ _ _ _ r).trans ?_
  rw [pay99_at]
  simp only [Memref.IsWhole.read_unread]
  rw [ld_rows x1, cnt_at x0]
  exact pay94_tile i x0 x1 x2 r

theorem col1_A (r : Fin 128) :
    (arg15.view.read (Elt Ideal) (arg15.view.writes (Elt Ideal) arg15.view.junk (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.2.2.2.2.2.2.1)) (ix3 1 r 0) = tR i x0 x1 x2 x3 r := by
  rw [View.read_writes_junk_eq_canon, LT3_A]
  refine (col1 _ _ _ _ r).trans ?_
  rw [pay100_at]
  simp only [Memref.IsWhole.read_unread]
  rw [ld_rows x1, cnt_at x0]
  exact pay95_tile i x0 x1 x2 x3 r

theorem gY_A (r : Fin 128) (c' : Fin 10240) :
    gY x1 (arg15.view.read (Elt Ideal) (arg15.view.writes (Elt Ideal) arg15.view.junk (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.2.2.2.2.2.2.1)) x4 x5 r c' = tY i x0 x1 x2 x3 x4 x5 r c' := by
  exact congrArg₂ (fun m d => kY (x1 (ix3 0 r c')) m d (x4 (ix2 0 c')) (x5 (ix2 0 c'))) (col0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 r) (col1_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 r)

theorem gA_A (r k : Fin 128) :
    gA x1 (arg15.view.read (Elt Ideal) (arg15.view.writes (Elt Ideal) arg15.view.junk (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.2.2.2.2.2.2.1)) x4 x5 r k = tA i x0 x1 x2 x3 x4 x5 r k := by
  unfold gA tA
  exact congrArg kA (funext fun c' => gY_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 r _)

/-- Case A: the normalised tile. -/
theorem y_A (r : Fin 128) (c' : Fin 10240) :
    (arg12.view.read (Elt Ideal) (arg12.view.writes (Elt Ideal) arg12.view.junk (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.2.2.2.2.2.1)) (ix2 r c') = tY i x0 x1 x2 x3 x4 x5 r c' := by
  rw [View.read_writes_junk_eq_canon, LT0_A]
  refine (yList_canon _ _ _ _ r c').trans ?_
  simp only [Memref.IsWhole.read_unread]
  exact gY_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 r c'

/-- Case A: the block maxima. -/
theorem a_A (r k : Fin 128) (hk : k.val < 80) :
    (arg13.view.read (Elt Ideal) (arg13.view.writes (Elt Ideal) arg13.view.junk (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.2.2.2.1)) (ix2 r k) = tA i x0 x1 x2 x3 x4 x5 r k := by
  rw [LS1_A]
  refine (View.read_writes_apply_eq_canon _ _ _ _ (aList_cov _ _ _ _ _ r k hk)).trans ?_
  refine (aList_canon _ _ _ _ _ r k hk).trans ?_
  simp only [Memref.IsWhole.read_unread]
  exact gA_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 r k

/-- Case A: the scales. -/
theorem out7_A (r : Fin 128) (k : Fin 80) :
    out0_A_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 (ix3 0 r k) = kScale (tA i x0 x1 x2 x3 x4 x5 r ⟨k.val, by omega⟩) := by
  unfold out0_A_7
  rw [View.read_writes_junk_eq_canon, L7_A, View.canon_unit_zero (by funext a; fin_cases a <;> rfl)]
  refine (pay663_at _ r k).trans ?_
  rw [View.ld_unit_zero (by funext a; fin_cases a <;> rfl)]
  exact congrArg kScale (a_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 r ⟨k.val, by omega⟩ k.isLt)

/-- Case A: the expansion matrix. -/
theorem sout2_A (k : Fin 128) (c' : Fin 10240) : sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 (ix2 k c') = gE k c' := by
  unfold sout0_A_2
  rw [View.read_writes_junk_eq_canon, LS2_A]
  exact eList_canon k c'

/-- Case A: the codes. -/
theorem out6_A (r : Fin 128) (c' : Fin 10240) :
    out0_A_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 (ix3 0 r c') =
      kQ (tY i x0 x1 x2 x3 x4 x5 r c') (kInv (tA i x0 x1 x2 x3 x4 x5 r ⟨c'.val / 128, by omega⟩)) := by
  unfold out0_A_6
  rw [View.read_writes_junk_eq_canon, L6_A]
  refine (cList_canon _ _ _ r c').trans ?_
  refine congrArg₂ kQ (y_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 r c') ?_
  refine (Finset.sum_congr rfl fun x _ => ?_).trans ((expand_sum (fun x => kInv ((arg13.view.read (Elt Ideal) (arg13.view.writes (Elt Ideal) arg13.view.junk (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.2.2.2.1)) (ix2 r x))) c').trans
    (congrArg kInv (a_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 r ⟨c'.val / 128, by omega⟩ (by show c'.val / 128 < 80; omega))))
  refine congrArg₂ (· * ·) ?_ ?_
  · refine (pay664_at _ _).trans ?_
    rw [View.ld_unit_zero (by funext a; fin_cases a <;> rfl)]
  · rw [View.read_writes_junk_eq_canon, LS2_A]
    exact eList_canon x c'

/-- Case A: the mean. -/
theorem out8_A (b : Fin 3) (s : Fin 640) :
    out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 (ix2 b s) =
      if b = gb i ∧ s.val / 128 = (gt i).val then tM i x0 x1 x2 ⟨s.val % 128, by omega⟩ else 0 := by
  unfold out0_A_8
  rw [L8_A]
  simp only [Memref.IsWhole.read_unread]
  rw [ld_rows x1, cnt_at x0]
  refine lanes_read i _ _ b s _ _ (fun _ _ => 0) (tM i x0 x1 x2) (fun b s => ?_) (fun b r => ?_)
  · rw [View.read_writes_junk_eq_canon, View.canon_unit_zero (by funext a; fin_cases a <;> rfl)]
    pointwise [k0_pay83]
  · have e : View.ld (View.read (Elt Ideal) arg10.view (arg10.view.writes (Elt Ideal) arg10.view.junk [⟨Rect.unit ![0, 0] S3x640.size inb_S3x640_S3x640_0_0, k0_pay83 (F := Ideal)⟩])) (Rect.unit (k0_off2 i) S3x128.size (k0_off2_inb i)) (ix2 b r) = 0 := by
      rw [View.read_writes_junk_eq_canon, View.canon_unit_zero (by funext a; fin_cases a <;> rfl)]
      pointwise [k0_pay83]
    rw [pay96_at, pay94_tile, e]

/-- Case A: the reciprocal deviation. -/
theorem out9_A (b : Fin 3) (s : Fin 640) :
    out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 (ix2 b s) =
      if b = gb i ∧ s.val / 128 = (gt i).val then tR i x0 x1 x2 x3 ⟨s.val % 128, by omega⟩ else 0 := by
  unfold out0_A_9
  rw [L9_A]
  simp only [Memref.IsWhole.read_unread]
  rw [ld_rows x1, cnt_at x0]
  refine lanes_read i _ _ b s _ _ (fun _ _ => 0) (tR i x0 x1 x2 x3) (fun b s => ?_) (fun b r => ?_)
  · rw [View.read_writes_junk_eq_canon, View.canon_unit_zero (by funext a; fin_cases a <;> rfl)]
    pointwise [k0_pay84]
  · have e : View.ld (View.read (Elt Ideal) arg11.view (arg11.view.writes (Elt Ideal) arg11.view.junk [⟨Rect.unit ![0, 0] S3x640.size inb_S3x640_S3x640_0_0, k0_pay84 (F := Ideal)⟩])) (Rect.unit (k0_off2 i) S3x128.size (k0_off2_inb i)) (ix2 b r) = 0 := by
      rw [View.read_writes_junk_eq_canon, View.canon_unit_zero (by funext a; fin_cases a <;> rfl)]
      pointwise [k0_pay84]
    rw [pay97_at, pay95_tile, e]

end CaseA

end Cert.KernelIdeal.Hand
-- ==== Proof.Values.lean ====
/-
  The four result arrays of the kernel, entry by entry, as functions of the argument arrays.
-/
module

public import proofs.«01_k».proof.Proof.Point
public import proofs.«01_k».proof.Proof.Gen.KernelIdeal.Value

@[expose] public section

set_option maxRecDepth 65536

noncomputable section

namespace Cert.KernelIdeal.Hand

open Cert.KernelIdeal Cert.KernelIdeal.Gen
open Idealize.ShloMosaic Idealize.ShloMosaic.TcCoe
open Idealize.SL Idealize.SL.Sem

section Spec

variable (A0 : Vec Ideal S3x640x10240 .bf16) (A1 : Vec Ideal S1 .f32) (A2 A3 : Vec Ideal S1x3x640 .f32)
  (A4 A5 : Vec Ideal S10240 .f32)

/-- The mean of row `(b, s)`. -/
def sM (b : Fin 3) (s : Fin 640) : EReal := kMean (fun k => A0 (ix3 b s k)) (A1 (ix1 0)) (A2 (ix3 0 b s))
/-- The reciprocal deviation of row `(b, s)`. -/
def sR (b : Fin 3) (s : Fin 640) : EReal :=
  kRstd (fun k => A0 (ix3 b s k)) (A1 (ix1 0)) (A2 (ix3 0 b s)) (A3 (ix3 0 b s))
/-- The normalised entry. -/
def sY (b : Fin 3) (s : Fin 640) (c : Fin 10240) : EReal :=
  kY (A0 (ix3 b s c)) (sM A0 A1 A2 b s) (sR A0 A1 A2 A3 b s) (A4 (ix1 c)) (A5 (ix1 c))
/-- The maximum over block `k` of row `(b, s)`. -/
def sA (b : Fin 3) (s : Fin 640) (k : Fin 80) : EReal :=
  kA (fun c => sY A0 A1 A2 A3 A4 A5 b s ⟨128 * k.val + c.val, by have := c.isLt; have := k.isLt; omega⟩)
/-- The code, before it is named at its type. -/
def sQ (b : Fin 3) (s : Fin 640) (c : Fin 10240) : EReal :=
  kQ (sY A0 A1 A2 A3 A4 A5 b s c) (kInv (sA A0 A1 A2 A3 A4 A5 b s ⟨c.val / 128, by omega⟩))

end Spec

variable (m : (ℓ : Loc nD τ sig) → Buf (Elt Ideal) ℓ) (c : Dev nD)

theorem cast_at (v : Vec Ideal S10240 .f32) (h) (k : Fin 10240) : shapeCast S1x10240 v h (ix2 0 k) = v (ix1 k) := by
  pointwise

theorem V_v0 (k : Fin 10240) : (V m c main_v0 : S1x10240.Idx → EReal) (ix2 0 k) =
    (m ((c : Thread nD τ).loc main_arg4) : S10240.Idx → EReal) (ix1 k) :=
  cast_at (m ((c : Thread nD τ).loc main_arg4)) _ k

theorem V_v1 (k : Fin 10240) : (V m c main_v1 : S1x10240.Idx → EReal) (ix2 0 k) =
    (m ((c : Thread nD τ).loc main_arg5) : S10240.Idx → EReal) (ix1 k) :=
  cast_at (m ((c : Thread nD τ).loc main_arg5)) _ k

theorem gb_val (t : Fin cfg0.N) : (gb (grid0.coords t)).val = t.val / 5 := by
  have h : (grid0.coords t 0).val = t.val / 5 % 3 := Pipeline.Grid.coords_val t 0 (by decide) rfl
  have := lt_of_lt_of_eq t.isLt N_0
  show (grid0.coords t 0).val = _
  omega

theorem gt_val (t : Fin cfg0.N) : (gt (grid0.coords t)).val = t.val % 5 := by
  have h : (grid0.coords t 1).val = t.val / 1 % 5 := Pipeline.Grid.coords_val t 1 (by decide) rfl
  show (grid0.coords t 1).val = _
  omega

theorem index0 : ∀ t : Fin cfg0.N, win0_0.index t (0 : Fin 1) = 0 := (by decide +kernel : ∀ t : Fin grid0.N, _)
theorem index1 : ∀ t : Fin cfg0.N, win0_1.index t (0 : Fin 3) = t.val / 5 ∧ win0_1.index t (1 : Fin 3) = t.val % 5 ∧
    win0_1.index t (2 : Fin 3) = 0 := (by decide +kernel : ∀ t : Fin grid0.N, _)
theorem index2 : ∀ t : Fin cfg0.N, win0_2.index t (0 : Fin 3) = 0 ∧ win0_2.index t (1 : Fin 3) = 0 ∧
    win0_2.index t (2 : Fin 3) = 0 := (by decide +kernel : ∀ t : Fin grid0.N, _)
theorem index3 : ∀ t : Fin cfg0.N, win0_3.index t (0 : Fin 3) = 0 ∧ win0_3.index t (1 : Fin 3) = 0 ∧
    win0_3.index t (2 : Fin 3) = 0 := (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)

variable (t : Fin cfg0.N)

theorem blk0 : iblk m c 0 t (ix1 0) = m ((c : Thread nD τ).loc main_arg1) (ix1 0) := by
  show V m c main_arg1 (((cfg0.win 0).blk t).view.emb (ix1 0)) = _
  rw [V_main_arg1]
  congr 1
  funext a
  apply Fin.ext
  fin_cases a
  show win0_0.index t (0 : Fin 1) * 1 + 1 * 0 = 0
  rw [index0]

theorem blk1 (r : Fin 128) (k : Fin 10240) : iblk m c 1 t (ix3 0 r k) =
    m ((c : Thread nD τ).loc main_arg0) (ix3 (gb (grid0.coords t)) (gs (grid0.coords t) r) k) := by
  show V m c main_arg0 (((cfg0.win 1).blk t).view.emb (ix3 0 r k)) = _
  rw [V_main_arg0]
  congr 1
  obtain ⟨h0, h1, h2⟩ := index1 t
  funext a
  apply Fin.ext
  fin_cases a
  · show win0_1.index t (0 : Fin 3) * 1 + 1 * 0 = (gb (grid0.coords t)).val
    rw [gb_val]; omega
  · show win0_1.index t (1 : Fin 3) * 128 + 1 * r.val = 128 * (gt (grid0.coords t)).val + r.val
    rw [gt_val]; omega
  · show win0_1.index t (2 : Fin 3) * 10240 + 1 * k.val = k.val
    omega

theorem blk2 (b : Fin 3) (s : Fin 640) : iblk m c 2 t (ix3 0 b s) = m ((c : Thread nD τ).loc main_arg2) (ix3 0 b s) := by
  show V m c main_arg2 (((cfg0.win 2).blk t).view.emb (ix3 0 b s)) = _
  rw [V_main_arg2]
  congr 1
  obtain ⟨h0, h1, h2⟩ := index2 t
  funext a
  apply Fin.ext
  fin_cases a
  · show win0_2.index t (0 : Fin 3) * 1 + 1 * 0 = 0
    omega
  · show win0_2.index t (1 : Fin 3) * 3 + 1 * b.val = b.val
    omega
  · show win0_2.index t (2 : Fin 3) * 640 + 1 * s.val = s.val
    omega

theorem blk3 (b : Fin 3) (s : Fin 640) : iblk m c 3 t (ix3 0 b s) = m ((c : Thread nD τ).loc main_arg3) (ix3 0 b s) := by
  show V m c main_arg3 (((cfg0.win 3).blk t).view.emb (ix3 0 b s)) = _
  rw [V_main_arg3]
  congr 1
  obtain ⟨h0, h1, h2⟩ := index3 t
  funext a
  apply Fin.ext
  fin_cases a
  · show win0_3.index t (0 : Fin 3) * 1 + 1 * 0 = 0
    omega
  · show win0_3.index t (1 : Fin 3) * 3 + 1 * b.val = b.val
    omega
  · show win0_3.index t (2 : Fin 3) * 640 + 1 * s.val = s.val
    omega

theorem blk4 (k : Fin 10240) : iblk m c 4 t (ix2 0 k) = m ((c : Thread nD τ).loc main_arg4) (ix1 k) := by
  refine Eq.trans ?_ (V_v0 m c k)
  show V m c main_v0 (((cfg0.win 4).blk t).view.emb (ix2 0 k)) = _
  congr 1
  obtain ⟨h0, h1⟩ := index4 t
  funext a
  apply Fin.ext
  fin_cases a
  · show win0_4.index t (0 : Fin 2) * 1 + 1 * 0 = 0
    omega
  · show win0_4.index t (1 : Fin 2) * 10240 + 1 * k.val = k.val
    omega

theorem blk5 (k : Fin 10240) : iblk m c 5 t (ix2 0 k) = m ((c : Thread nD τ).loc main_arg5) (ix1 k) := by
  refine Eq.trans ?_ (V_v1 m c k)
  show V m c main_v1 (((cfg0.win 5).blk t).view.emb (ix2 0 k)) = _
  congr 1
  obtain ⟨h0, h1⟩ := index5 t
  funext a
  apply Fin.ext
  fin_cases a
  · show win0_5.index t (0 : Fin 2) * 1 + 1 * 0 = 0
    omega
  · show win0_5.index t (1 : Fin 2) * 10240 + 1 * k.val = k.val
    omega

/-- The mean of row `(b, s)` of the arguments. -/
abbrev mM := sM (m ((c : Thread nD τ).loc main_arg0)) (m ((c : Thread nD τ).loc main_arg1)) (m ((c : Thread nD τ).loc main_arg2))
/-- The reciprocal deviation of row `(b, s)` of the arguments. -/
abbrev mR := sR (m ((c : Thread nD τ).loc main_arg0)) (m ((c : Thread nD τ).loc main_arg1)) (m ((c : Thread nD τ).loc main_arg2))
  (m ((c : Thread nD τ).loc main_arg3))
/-- The normalised entry of the arguments. -/
abbrev mY := sY (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
/-- The block maximum of the arguments. -/
abbrev mA := sA (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
/-- The code of the arguments. -/
abbrev mQ := sQ (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))

theorem tM_iblk (r : Fin 128) : tM (grid0.coords t) (iblk m c 0 t) (iblk m c 1 t) (iblk m c 2 t) r =
    mM m c (gb (grid0.coords t)) (gs (grid0.coords t) r) := by
  unfold tM mM sM
  simp only [blk0, blk1, blk2]

theorem tR_iblk (r : Fin 128) : tR (grid0.coords t) (iblk m c 0 t) (iblk m c 1 t) (iblk m c 2 t) (iblk m c 3 t) r =
    mR m c (gb (grid0.coords t)) (gs (grid0.coords t) r) := by
  unfold tR mR sR
  simp only [blk0, blk1, blk2, blk3]

theorem tY_iblk (r : Fin 128) (k : Fin 10240) :
    tY (grid0.coords t) (iblk m c 0 t) (iblk m c 1 t) (iblk m c 2 t) (iblk m c 3 t) (iblk m c 4 t) (iblk m c 5 t) r k =
    mY m c (gb (grid0.coords t)) (gs (grid0.coords t) r) k := by
  unfold tY mY sY
  simp only [tM_iblk, tR_iblk, blk1, blk4, blk5]

theorem tA_iblk (r k : Fin 128) (hk : k.val < 80) :
    tA (grid0.coords t) (iblk m c 0 t) (iblk m c 1 t) (iblk m c 2 t) (iblk m c 3 t) (iblk m c 4 t) (iblk m c 5 t) r k =
    mA m c (gb (grid0.coords t)) (gs (grid0.coords t) r) ⟨k.val, hk⟩ := by
  unfold tA mA sA
  refine congrArg kA (funext fun j => ?_)
  rw [tY_iblk]
  exact congrArg (mY m c _ _) (Fin.ext (by show 128 * (k.val % 80) + j.val = 128 * k.val + j.val; rw [Nat.mod_eq_of_lt hk]))

/-- What the point before `t` left. -/
abbrev pv := outsAt0 m c (t.val - 1) (Nat.lt_of_le_of_lt (Nat.sub_le _ _) t.isLt)

/-- Row `s` of batch row `b` is one of point `t`'s. -/
abbrev here (b : Fin 3) (s : Fin 640) : Prop := b = gb (grid0.coords t) ∧ s.val / 128 = (gt (grid0.coords t)).val

theorem here_row (b : Fin 3) (s : Fin 640) (h : here t b s) : gs (grid0.coords t) ⟨s.val % 128, by omega⟩ = s :=
  Fin.ext (by show 128 * (gt (grid0.coords t)).val + s.val % 128 = s.val; have := h.2; omega)

theorem at8_A (h0 : t.val % 15 = 0) (b : Fin 3) (s : Fin 640) :
    (outsAt0 m c t.val t.isLt).2.2.1 (ix2 b s) = if here t b s then mM m c b s else 0 := by
  have e : (outsAt0 m c t.val t.isLt).2.2.1 = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) := by
    rw [outsAt0_A m c t h0]
  refine (congrFun e (ix2 b s)).trans ?_
  refine (out8_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) b s).trans ?_
  by_cases h : here t b s
  · rw [if_pos h, if_pos h, tM_iblk, here_row t b s h, h.1]
  · rw [if_neg h, if_neg h]

theorem at9_A (h0 : t.val % 15 = 0) (b : Fin 3) (s : Fin 640) :
    (outsAt0 m c t.val t.isLt).2.2.2.1 (ix2 b s) = if here t b s then mR m c b s else 0 := by
  have e : (outsAt0 m c t.val t.isLt).2.2.2.1 = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) := by
    rw [outsAt0_A m c t h0]
  refine (congrFun e (ix2 b s)).trans ?_
  refine (out9_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) b s).trans ?_
  by_cases h : here t b s
  · rw [if_pos h, if_pos h, tR_iblk, here_row t b s h, h.1]
  · rw [if_neg h, if_neg h]

theorem at6_A (h0 : t.val % 15 = 0) (r : Fin 128) (k : Fin 10240) :
    (outsAt0 m c t.val t.isLt).1 (ix3 0 r k) = mQ m c (gb (grid0.coords t)) (gs (grid0.coords t) r) k := by
  have e : (outsAt0 m c t.val t.isLt).1 = out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) := by
    rw [outsAt0_A m c t h0]
  refine (congrFun e (ix3 0 r k)).trans ?_
  refine (out6_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) r k).trans ?_
  exact congrArg₂ (fun y a => kQ y (kInv a)) (tY_iblk m c t r k) (tA_iblk m c t r ⟨k.val / 128, by omega⟩ (by show k.val / 128 < 80; omega))

theorem at7_A (h0 : t.val % 15 = 0) (r : Fin 128) (k : Fin 80) :
    (outsAt0 m c t.val t.isLt).2.1 (ix3 0 r k) = kScale (mA m c (gb (grid0.coords t)) (gs (grid0.coords t) r) k) := by
  have e : (outsAt0 m c t.val t.isLt).2.1 = out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) := by
    rw [outsAt0_A m c t h0]
  refine (congrFun e (ix3 0 r k)).trans ?_
  refine (out7_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) r k).trans ?_
  exact congrArg kScale (tA_iblk m c t r ⟨k.val, by omega⟩ k.isLt)

theorem at8_B (h0 : ¬t.val % 15 = 0) (b : Fin 3) (s : Fin 640) :
    (outsAt0 m c t.val t.isLt).2.2.1 (ix2 b s) = if here t b s then mM m c b s else (pv m c t).2.2.1 (ix2 b s) := by
  have e : (outsAt0 m c t.val t.isLt).2.2.1 = out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (pv m c t).2.2.1 (pv m c t).2.2.2.1 (pv m c t).2.2.2.2.1 (pv m c t).2.2.2.2.2 := by
    rw [outsAt0_B m c t h0]
  refine (congrFun e (ix2 b s)).trans ?_
  refine (out8_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (pv m c t).2.2.1 (pv m c t).2.2.2.1 (pv m c t).2.2.2.2.1 (pv m c t).2.2.2.2.2 b s).trans ?_
  by_cases h : here t b s
  · rw [if_pos h, if_pos h, tM_iblk, here_row t b s h, h.1]
  · rw [if_neg h, if_neg h]

theorem at9_B (h0 : ¬t.val % 15 = 0) (b : Fin 3) (s : Fin 640) :
    (outsAt0 m c t.val t.isLt).2.2.2.1 (ix2 b s) = if here t b s then mR m c b s else (pv m c t).2.2.2.1 (ix2 b s) := by
  have e : (outsAt0 m c t.val t.isLt).2.2.2.1 = out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (pv m c t).2.2.1 (pv m c t).2.2.2.1 (pv m c t).2.2.2.2.1 (pv m c t).2.2.2.2.2 := by
    rw [outsAt0_B m c t h0]
  refine (congrFun e (ix2 b s)).trans ?_
  refine (out9_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (pv m c t).2.2.1 (pv m c t).2.2.2.1 (pv m c t).2.2.2.2.1 (pv m c t).2.2.2.2.2 b s).trans ?_
  by_cases h : here t b s
  · rw [if_pos h, if_pos h, tR_iblk, here_row t b s h, h.1]
  · rw [if_neg h, if_neg h]

theorem at6_B (h0 : ¬t.val % 15 = 0) (hE : ∀ k j, (pv m c t).2.2.2.2.2 (ix2 k j) = gE k j) (r : Fin 128) (k : Fin 10240) :
    (outsAt0 m c t.val t.isLt).1 (ix3 0 r k) = mQ m c (gb (grid0.coords t)) (gs (grid0.coords t) r) k := by
  have e : (outsAt0 m c t.val t.isLt).1 = out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (pv m c t).2.2.1 (pv m c t).2.2.2.1 (pv m c t).2.2.2.2.1 (pv m c t).2.2.2.2.2 := by
    rw [outsAt0_B m c t h0]
  refine (congrFun e (ix3 0 r k)).trans ?_
  refine (out6_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (pv m c t).2.2.1 (pv m c t).2.2.2.1 (pv m c t).2.2.2.2.1 (pv m c t).2.2.2.2.2 hE r k).trans ?_
  exact congrArg₂ (fun y a => kQ y (kInv a)) (tY_iblk m c t r k) (tA_iblk m c t r ⟨k.val / 128, by omega⟩ (by show k.val / 128 < 80; omega))

theorem at7_B (h0 : ¬t.val % 15 = 0) (r : Fin 128) (k : Fin 80) :
    (outsAt0 m c t.val t.isLt).2.1 (ix3 0 r k) = kScale (mA m c (gb (grid0.coords t)) (gs (grid0.coords t) r) k) := by
  have e : (outsAt0 m c t.val t.isLt).2.1 = out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (pv m c t).2.2.1 (pv m c t).2.2.2.1 (pv m c t).2.2.2.2.1 (pv m c t).2.2.2.2.2 := by
    rw [outsAt0_B m c t h0]
  refine (congrFun e (ix3 0 r k)).trans ?_
  refine (out7_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (pv m c t).2.2.1 (pv m c t).2.2.2.1 (pv m c t).2.2.2.2.1 (pv m c t).2.2.2.2.2 r k).trans ?_
  exact congrArg kScale (tA_iblk m c t r ⟨k.val, by omega⟩ k.isLt)

theorem atE_A (h0 : t.val % 15 = 0) (k : Fin 128) (j : Fin 10240) : (outsAt0 m c t.val t.isLt).2.2.2.2.2 (ix2 k j) = gE k j := by
  have e : (outsAt0 m c t.val t.isLt).2.2.2.2.2 = sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) := by
    rw [outsAt0_A m c t h0]
  refine (congrFun e (ix2 k j)).trans ?_
  exact sout2_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) k j

theorem atE_B (h0 : ¬t.val % 15 = 0) : (outsAt0 m c t.val t.isLt).2.2.2.2.2 = (pv m c t).2.2.2.2.2 := by
  rw [outsAt0_B m c t h0]
  rfl

theorem here_iff (b : Fin 3) (s : Fin 640) : here t b s ↔ 5 * b.val + s.val / 128 = t.val := by
  have hb := gb_val t
  have ht := gt_val t
  unfold here
  rw [Fin.ext_iff, hb, ht]
  omega

/-- The invariant of the sweep after point `n`: the expansion matrix, and the rows the points so far have written. -/
theorem sweep (n : ℕ) (hn : n < cfg0.N) :
    (∀ k j, (outsAt0 m c n hn).2.2.2.2.2 (ix2 k j) = gE k j) ∧
    (∀ b s, 5 * b.val + s.val / 128 ≤ n → (outsAt0 m c n hn).2.2.1 (ix2 b s) = mM m c b s) ∧
    (∀ b s, 5 * b.val + s.val / 128 ≤ n → (outsAt0 m c n hn).2.2.2.1 (ix2 b s) = mR m c b s) ∧
    (∀ r k, (outsAt0 m c n hn).1 (ix3 0 r k) = mQ m c (gb (grid0.coords ⟨n, hn⟩)) (gs (grid0.coords ⟨n, hn⟩) r) k) ∧
    (∀ r k, (outsAt0 m c n hn).2.1 (ix3 0 r k) = kScale (mA m c (gb (grid0.coords ⟨n, hn⟩)) (gs (grid0.coords ⟨n, hn⟩) r) k)) := by
  have hN := lt_of_lt_of_eq hn N_0
  induction n with
  | zero =>
    have hz : ∀ (b : Fin 3) (s : Fin 640), 5 * b.val + s.val / 128 ≤ 0 → here ⟨0, hn⟩ b s := fun b s h =>
      (here_iff ⟨0, hn⟩ b s).2 (by show _ = 0; omega)
    exact ⟨atE_A m c ⟨0, hn⟩ rfl, fun b s h => (at8_A m c ⟨0, hn⟩ rfl b s).trans (if_pos (hz b s h)),
      fun b s h => (at9_A m c ⟨0, hn⟩ rfl b s).trans (if_pos (hz b s h)), at6_A m c ⟨0, hn⟩ rfl, at7_A m c ⟨0, hn⟩ rfl⟩
  | succ n ih =>
    have hn' : n < cfg0.N := Nat.lt_of_succ_lt hn
    obtain ⟨i1, i2, i3, -, -⟩ := ih hn' (by omega)
    have h0 : ¬ (⟨n + 1, hn⟩ : Fin cfg0.N).val % 15 = 0 := by show ¬ (n + 1) % 15 = 0; omega
    have hz : ∀ (b : Fin 3) (s : Fin 640), 5 * b.val + s.val / 128 ≤ n + 1 → ¬ here ⟨n + 1, hn⟩ b s →
        5 * b.val + s.val / 128 ≤ n := fun b s h h' => by
      rw [here_iff] at h'
      have : ¬ 5 * b.val + s.val / 128 = n + 1 := h'
      omega
    refine ⟨fun k j => (congrFun (atE_B m c ⟨n + 1, hn⟩ h0) (ix2 k j)).trans (i1 k j), fun b s h => ?_, fun b s h => ?_,
      at6_B m c ⟨n + 1, hn⟩ h0 i1, at7_B m c ⟨n + 1, hn⟩ h0⟩
    · refine (at8_B m c ⟨n + 1, hn⟩ h0 b s).trans ?_
      by_cases h' : here ⟨n + 1, hn⟩ b s
      · exact if_pos h'
      · exact (if_neg h').trans (i2 b s (hz b s h h'))
    · refine (at9_B m c ⟨n + 1, hn⟩ h0 b s).trans ?_
      by_cases h' : here ⟨n + 1, hn⟩ b s
      · exact if_pos h'
      · exact (if_neg h').trans (i3 b s (hz b s h h'))

theorem G8_at (b : Fin 3) (s : Fin 640) : Value.G8 m c (ix2 b s) = mM m c b s := by
  rw [Value.G8_last, ← Value.outsAt0_sweep m c 14 (lt_of_lt_of_eq (by decide) N_0.symm)]
  exact (sweep m c 14 _).2.1 b s (by omega)

theorem G9_at (b : Fin 3) (s : Fin 640) : Value.G9 m c (ix2 b s) = mR m c b s := by
  rw [Value.G9_last, ← Value.outsAt0_sweep m c 14 (lt_of_lt_of_eq (by decide) N_0.symm)]
  exact (sweep m c 14 _).2.2.1 b s (by omega)

theorem gs_point {n : ℕ} (hn : n < cfg0.N) (b : Fin 3) (s : Fin 640) (h : n = 5 * b.val + s.val / 128) :
    gb (grid0.coords ⟨n, hn⟩) = b ∧ gs (grid0.coords ⟨n, hn⟩) ⟨s.val % 128, by omega⟩ = s := by
  have hb := gb_val ⟨n, hn⟩
  have ht := gt_val ⟨n, hn⟩
  simp only at hb ht
  exact ⟨Fin.ext (by omega), Fin.ext (by show 128 * (gt (grid0.coords ⟨n, hn⟩)).val + s.val % 128 = s.val; omega)⟩

theorem G6_at (b : Fin 3) (s : Fin 640) (k : Fin 10240) : Value.G6 m c (ix3 b s k) = mQ m c b s k := by
  have hp : Value.pt6Of (ix3 b s k) = 5 * b.val + s.val / 128 := by
    show 5 * (b.val / 1 - 0) + 1 * (s.val / 128 - 0) + 1 * (k.val / 10240 - 0) = _
    omega
  have hl : Value.loc6Of (ix3 b s k) = ix3 0 ⟨s.val % 128, by omega⟩ k := by
    funext a
    apply Fin.ext
    fin_cases a
    · exact Nat.mod_one _
    · rfl
    · exact Nat.mod_eq_of_lt k.isLt
  have hN : Value.pt6Of (ix3 b s k) < cfg0.N := lt_of_lt_of_eq (by omega) N_0.symm
  unfold Value.G6
  rw [dif_pos hN, ← Value.outsAt0_sweep m c _ hN, hl, (sweep m c _ hN).2.2.2.1]
  obtain ⟨e1, e2⟩ := gs_point hN b s hp
  rw [e1, e2]

theorem G7_at (b : Fin 3) (s : Fin 640) (k : Fin 80) : Value.G7 m c (ix3 b s k) = kScale (mA m c b s k) := by
  have hp : Value.pt7Of (ix3 b s k) = 5 * b.val + s.val / 128 := by
    show 5 * (b.val / 1 - 0) + 1 * (s.val / 128 - 0) + 1 * (k.val / 80 - 0) = _
    omega
  have hl : Value.loc7Of (ix3 b s k) = ix3 0 ⟨s.val % 128, by omega⟩ k := by
    funext a
    apply Fin.ext
    fin_cases a
    · exact Nat.mod_one _
    · rfl
    · exact Nat.mod_eq_of_lt k.isLt
  have hN : Value.pt7Of (ix3 b s k) < cfg0.N := lt_of_lt_of_eq (by omega) N_0.symm
  unfold Value.G7
  rw [dif_pos hN, ← Value.outsAt0_sweep m c _ hN, hl, (sweep m c _ hN).2.2.2.2]
  obtain ⟨e1, e2⟩ := gs_point hN b s hp
  rw [e1, e2]

end Cert.KernelIdeal.Hand
-- ==== Proof.Ref.lean ====
/-
  The four result arrays of the reference, entry by entry, as functions of the argument arrays.
-/
module

public import proofs.«01_k».proof.Proof.Bounds
public import proofs.«01_k».proof.Proof.Values
public import proofs.«01_k».proof.Proof.Gen.ReferenceIdeal.Read
public import Idealize.ShloMosaic.Lib.Pointwise
public import Idealize.ShloMosaic.Lib.Tactic.CleanTypes

@[expose] public section

noncomputable section

namespace Cert.ReferenceIdeal.Hand

open Cert.ReferenceIdeal Cert.ReferenceIdeal.Gen Cert.ReferenceIdeal.Read
open Cert.KernelIdeal.Hand
open Idealize.ShloMosaic Idealize.ShloMosaic.TcCoe

variable (x0 : Vec Ideal S3x640x10240 .bf16) (x1 : Vec Ideal S1 .f32) (x2 x3 : Vec Ideal S1x3x640 .f32) (x4 x5 : Vec Ideal S10240 .f32)

/-- A row summed block by block is summed. -/
theorem sum_split (f : Fin 10240 → EReal) :
    ∑ k : Fin 80, ∑ j : Fin 128, f ⟨k.val * 128 + j.val, by omega⟩ = ∑ k, f k := by
  rw [← Fintype.sum_prod_type' (f := fun (k : Fin 80) (j : Fin 128) => f ⟨k.val * 128 + j.val, by omega⟩)]
  refine Fintype.sum_equiv (finProdFinEquiv (m := 80) (n := 128)) _ _ fun p => congrArg f (Fin.ext ?_)
  show p.1.val * 128 + p.2.val = p.2.val + 128 * p.1.val
  ring

/-- The row sum. -/
theorem v2_at (b : Fin 3) (s : Fin 640) : val_main_v2 (F := Ideal) x0 (ix2 b s) = ∑ k, x0 (ix3 b s k) := by
  clean_types
  pointwise [val_main_v2, val_main_v1, val_main_v0, val_main_cst]
  exact sum_split fun k => x0 (ix3 b s k)

/-- The local mean. -/
theorem v4_at (b : Fin 3) (s : Fin 640) : val_main_v4 (F := Ideal) x0 (ix2 b s) = locMean fun k => x0 (ix3 b s k) := by
  rw [val_main_v4_apply, v2_at]
  rfl

/-- The local sum of squared deviations. -/
theorem v9_at (b : Fin 3) (s : Fin 640) : val_main_v9 (F := Ideal) x0 (ix2 b s) =
    ∑ k, (x0 (ix3 b s k) - locMean fun k => x0 (ix3 b s k)) * (x0 (ix3 b s k) - locMean fun k => x0 (ix3 b s k)) := by
  clean_types
  pointwise [val_main_v9, val_main_v8, val_main_v7, val_main_v6, val_main_v5, val_main_v1, val_main_v0, val_main_cst_1, v4_at]
  exact sum_split fun k => (x0 (ix3 b s k) - locMean fun k => x0 (ix3 b s k)) * (x0 (ix3 b s k) - locMean fun k => x0 (ix3 b s k))

/-- The peer's count. -/
theorem v10_at (j : S_.Idx) : val_main_v10 (F := Ideal) x1 j = x1 (ix1 0) := by
  clean_types
  pointwise [val_main_v10]

/-- The peer's mean of a row. -/
theorem v11_at (b : Fin 3) (s : Fin 640) : val_main_v11 (F := Ideal) x2 (ix2 b s) = x2 (ix3 0 b s) := by
  clean_types
  pointwise [val_main_v11]
/-- The peer's sum of squares of a row. -/
theorem v12_at (b : Fin 3) (s : Fin 640) : val_main_v12 (F := Ideal) x3 (ix2 b s) = x3 (ix3 0 b s) := by
  clean_types
  pointwise [val_main_v12]

/-- The merged mean of a row. -/
theorem v18_at (b : Fin 3) (s : Fin 640) : val_main_v18 (F := Ideal) x0 x1 x2 (ix2 b s) =
    kMean (fun k => x0 (ix3 b s k)) (x1 (ix1 0)) (x2 (ix3 0 b s)) := by
  simp only [val_main_v18_apply, val_main_v17_apply, val_main_v16_apply, val_main_v15_apply, val_main_v14_apply, val_main_v13_apply, v4_at, v10_at, v11_at]
  rfl

/-- The merged reciprocal deviation of a row. -/
theorem v30_at (b : Fin 3) (s : Fin 640) : val_main_v30 (F := Ideal) x0 x1 x2 x3 (ix2 b s) =
    rRstd (fun k => x0 (ix3 b s k)) (x1 (ix1 0)) (x2 (ix3 0 b s)) (x3 (ix3 0 b s)) := by
  simp only [val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v14_apply, val_main_v13_apply, v4_at, v9_at, v10_at, v11_at, v12_at]
  rfl

/-- The normalised entry. -/
theorem v44_at (b : Fin 3) (s : Fin 640) (k : Fin 80) (j : Fin 128) : val_main_v44 (F := Ideal) x0 x1 x2 x3 x4 x5 (ix4 b s k j) =
    kY (x0 (ix3 b s ⟨k.val * 128 + j.val, by omega⟩)) (val_main_v18 (F := Ideal) x0 x1 x2 (ix2 b s)) (val_main_v30 (F := Ideal) x0 x1 x2 x3 (ix2 b s))
      (x4 (ix1 ⟨k.val * 128 + j.val, by omega⟩)) (x5 (ix1 ⟨k.val * 128 + j.val, by omega⟩)) := by
  clean_types
  pointwise [val_main_v44, val_main_v43, val_main_v42, val_main_v41, val_main_v40, val_main_v39, val_main_v38, val_main_v37, val_main_v36, val_main_v35, val_main_v34, val_main_v33, val_main_v32, val_main_v31, val_main_v1, val_main_v0]
  rfl

/-- The largest magnitude of a block. -/
theorem v46_at (b : Fin 3) (s : Fin 640) (k : Fin 80) : val_main_v46 (F := Ideal) x0 x1 x2 x3 x4 x5 (ix3 b s k) =
    kA fun j => val_main_v44 (F := Ideal) x0 x1 x2 x3 x4 x5 (ix4 b s k j) := by
  clean_types
  pointwise [val_main_v46, val_main_v45_apply, val_main_cst_5]
  rfl

/-- The tested value: a block's largest magnitude over 448. -/
theorem v48_at (b : Fin 3) (s : Fin 640) (k : Fin 80) : val_main_v48 (F := Ideal) x0 x1 x2 x3 x4 x5 (ix3 b s k) =
    val_main_v46 (F := Ideal) x0 x1 x2 x3 x4 x5 (ix3 b s k) * cInv := by
  rw [val_main_v48_apply]
  rfl

/-- The integer exponents, -125 to 127. -/
theorem int_at : ∀ j : Fin 253, (IntOp.addi (-125#32 : BitVec 32) (BitVec.ofNat 32 j.val)).toInt = (j.val : ℤ) - 125 := by
  decide +kernel

/-- The constant two. -/
theorem two_bits : Ideal.ofBits .f32 0x40000000#32 = ((2 : ℝ) : EReal) := by
  refine (ofBits_pw 128 (by norm_num)).trans ?_
  rw [pw_pos (by norm_num)]
  norm_num

/-- The powers of two. -/
theorem v54_at (j : Fin 253) : val_main_v54 (F := Ideal) (ix1 j) = pw (j.val + 2) := by
  have h : val_main_v54 (F := Ideal) (ix1 j) =
      Ideal.pow (Ideal.ofBits .f32 0x40000000#32) (((IntOp.addi (-125#32 : BitVec 32) (BitVec.ofNat 32 j.val)).toInt : ℝ) : EReal) := by
    rw [val_main_v54_apply]
    rfl
  rw [h, two_bits, int_at, Ideal.pow_coe_coe, pw_pos (by omega)]
  congr 1
  refine (Real.rpow_intCast 2 ((j.val : ℤ) - 125)).trans ?_
  congr 1
  push_cast
  ring

/-- The least entry of the guarded powers. -/
theorem v61_fold (b : Fin 3) (s : Fin 640) (k : Fin 80) : val_main_v61 (F := Ideal) x0 x1 x2 x3 x4 x5 (ix3 b s k) =
    Finset.univ.fold min (Ideal.ofBits FTy.f32 2139095040#32) (fun j : Fin 253 => val_main_v60 (F := Ideal) x0 x1 x2 x3 x4 x5 (ix4 b s k j)) := by
  clean_types
  pointwise [val_main_v61, val_main_cst_9]

/-- A power where it exceeds the tested value, else infinity. -/
theorem v60_at (b : Fin 3) (s : Fin 640) (k : Fin 80) (j : Fin 253) : val_main_v60 (F := Ideal) x0 x1 x2 x3 x4 x5 (ix4 b s k j) =
    Scalar.select (FloatOps.cmpf (F := Ideal) (φ := .f32) .ogt (val_main_v54 (F := Ideal) (ix1 j)) (val_main_v48 (F := Ideal) x0 x1 x2 x3 x4 x5 (ix3 b s k)))
      (val_main_v54 (F := Ideal) (ix1 j)) (Ideal.ofBits FTy.f32 2139095040#32) := by
  rw [val_main_v60_apply, val_main_v59_apply, val_main_v58_apply, val_main_v57_apply, val_main_v56_apply, val_main_v55_apply, val_main_call0_v1_apply, val_main_call0_v2_apply, val_main_call0_v0_apply]
  have h1 : idx_main_v56 (idx_main_v57 (ix4 b s k j)) = ix1 j := by funext a; fin_cases a; rfl
  have h2 : idx_main_v55 (idx_main_v58 (ix4 b s k j)) = ix3 b s k := by funext a; fin_cases a <;> rfl
  have h3 : idx_main_call0_v1 (ix4 b s k j) = ix1 j := by funext a; fin_cases a; rfl
  rw [h1, h2, h3]
  rfl

/-- One where the tested value is below the least normal number, else the least power above it. -/
theorem v64_at (b : Fin 3) (s : Fin 640) (k : Fin 80) : val_main_v64 (F := Ideal) x0 x1 x2 x3 x4 x5 (ix3 b s k) =
    Scalar.select (FloatOps.cmpf (F := Ideal) (φ := .f32) .olt (val_main_v48 (F := Ideal) x0 x1 x2 x3 x4 x5 (ix3 b s k)) (Ideal.ofBits FTy.f32 0x00800000#32))
      (Ideal.ofBits FTy.f32 0x3F800000#32) (val_main_v61 (F := Ideal) x0 x1 x2 x3 x4 x5 (ix3 b s k)) := by
  rw [val_main_v64_apply, val_main_v63_apply, val_main_v62_apply, val_main_call1_v1_apply, val_main_call1_v0_apply]
  rfl

/-- The clipped quotient. -/
theorem v70_at (b : Fin 3) (s : Fin 640) (k : Fin 80) (j : Fin 128) : val_main_v70 (F := Ideal) x0 x1 x2 x3 x4 x5 (ix4 b s k j) =
    kQ (val_main_v44 (F := Ideal) x0 x1 x2 x3 x4 x5 (ix4 b s k j)) (Ideal.div (Ideal.ofBits FTy.f32 0x3F800000#32) (val_main_v64 (F := Ideal) x0 x1 x2 x3 x4 x5 (ix3 b s k))) := by
  rw [val_main_v70_apply, val_main_call2_v4_apply, val_main_call2_v3_apply, val_main_call2_v2_apply, val_main_call2_v1_apply, val_main_call2_v0_apply, val_main_v69_apply, val_main_v68_apply, val_main_v67_apply, val_main_v66_apply, val_main_v65_apply]
  have h1 : idx_main_v67 (idx_main_v68 (ix4 b s k j)) = ix3 b s k := by funext a; fin_cases a <;> rfl
  rw [h1]
  rfl

/-- The codes, at their place in the row. -/
theorem v72_at (b : Fin 3) (s : Fin 640) (c : Fin 10240) : val_main_v72 (F := Ideal) x0 x1 x2 x3 x4 x5 (ix3 b s c) =
    val_main_v70 (F := Ideal) x0 x1 x2 x3 x4 x5 (ix4 b s ⟨c.val / 128, by omega⟩ ⟨c.val % 128, by omega⟩) := by
  rw [val_main_v72_apply, val_main_v71_apply]
  have h : idx_main_v72 (ix3 b s c) = ix4 b s ⟨c.val / 128, by omega⟩ ⟨c.val % 128, by omega⟩ := by
    unfold idx_main_v72
    have hb := b.isLt
    have hs := s.isLt
    have hc := c.isLt
    funext a
    fin_cases a
    · exact Fin.ext (show ((b.val * 640 + s.val) * 10240 + c.val) / 6553600 = b.val by omega)
    · exact Fin.ext (show ((b.val * 640 + s.val) * 10240 + c.val) / 10240 % 640 = s.val by omega)
    · exact Fin.ext (show ((b.val * 640 + s.val) * 10240 + c.val) / 128 % 80 = c.val / 128 by omega)
    · exact Fin.ext (show ((b.val * 640 + s.val) * 10240 + c.val) % 128 = c.val % 128 by omega)
  rw [h]
  rfl

/-- The constant infinity. -/
theorem inf_bits : Ideal.ofBits FTy.f32 2139095040#32 = ⊤ := by
  simp [Ideal.ofBits, Ideal.ieee]

/-- The constant one. -/
theorem one_bits : Ideal.ofBits FTy.f32 0x3F800000#32 = 1 := by
  refine (ofBits_pw 127 (by norm_num)).trans ?_
  rw [pw_pos (by norm_num)]
  norm_num

/-- The least normal number. -/
theorem one_pw : Ideal.ofBits FTy.f32 0x00800000#32 = pw 1 := ofBits_pw 1 (by norm_num)

/-- A select on `>`. -/
theorem select_ogt (x y u v : EReal) :
    Scalar.select (FloatOps.cmpf (F := Ideal) (φ := .f32) .ogt x y) u v = if y < x then u else v := by
  show Scalar.select (BitVec.ofBool _) u v = _
  by_cases h : y < x <;> simp [h, Scalar.select]

/-- A select on `<`. -/
theorem select_olt (x y u v : EReal) :
    Scalar.select (FloatOps.cmpf (F := Ideal) (φ := .f32) .olt x y) u v = if x < y then u else v := by
  show Scalar.select (BitVec.ofBool _) u v = _
  by_cases h : x < y <;> simp [h, Scalar.select]

/-- The scale of a block. -/
theorem v64_eq (b : Fin 3) (s : Fin 640) (k : Fin 80) : val_main_v64 (F := Ideal) x0 x1 x2 x3 x4 x5 (ix3 b s k) =
    refScale (val_main_v46 (F := Ideal) x0 x1 x2 x3 x4 x5 (ix3 b s k) * cInv) := by
  rw [v64_at, v61_fold, v48_at, one_bits, one_pw, inf_bits, refScale]
  have h : ∀ j : Fin 253, val_main_v60 (F := Ideal) x0 x1 x2 x3 x4 x5 (ix4 b s k j) =
      if val_main_v46 (F := Ideal) x0 x1 x2 x3 x4 x5 (ix3 b s k) * cInv < pw (j.val + 2) then pw (j.val + 2) else ⊤ := fun j => by
    rw [v60_at, v48_at, v54_at, inf_bits, select_ogt]
  rw [funext h, select_olt]

/-- The reference's mean is the kernel's. -/
theorem r18 (b : Fin 3) (s : Fin 640) : val_main_v18 (F := Ideal) x0 x1 x2 (ix2 b s) = sM x0 x1 x2 b s := v18_at x0 x1 x2 b s

/-- The reference's reciprocal deviation of one row. -/
def rR (b : Fin 3) (s : Fin 640) : EReal :=
  rRstd (fun k => x0 (ix3 b s k)) (x1 (ix1 0)) (x2 (ix3 0 b s)) (x3 (ix3 0 b s))

/-- The reference's reciprocal deviation. -/
theorem r30 (b : Fin 3) (s : Fin 640) : val_main_v30 (F := Ideal) x0 x1 x2 x3 (ix2 b s) = rR x0 x1 x2 x3 b s := v30_at x0 x1 x2 x3 b s

variable (b : Fin 3) (s : Fin 640) (hR : rR x0 x1 x2 x3 b s = sR x0 x1 x2 x3 b s)
include hR

/-- The normalised entry is the kernel's. -/
theorem r44 (k : Fin 80) (j : Fin 128) (c : Fin 10240) (hc : c.val = 128 * k.val + j.val) :
    val_main_v44 (F := Ideal) x0 x1 x2 x3 x4 x5 (ix4 b s k j) = sY x0 x1 x2 x3 x4 x5 b s c := by
  have e : (⟨k.val * 128 + j.val, by omega⟩ : Fin 10240) = c := Fin.ext (by rw [hc]; show k.val * 128 + j.val = _; ring)
  rw [v44_at, r18, r30, hR, e]
  rfl

/-- The block maximum is the kernel's. -/
theorem r46 (k : Fin 80) : val_main_v46 (F := Ideal) x0 x1 x2 x3 x4 x5 (ix3 b s k) = sA x0 x1 x2 x3 x4 x5 b s k := by
  rw [v46_at, sA]
  exact congrArg kA (funext fun j => r44 x0 x1 x2 x3 x4 x5 b s hR k j _ rfl)

variable (h0 : ∀ k, 0 ≤ sA x0 x1 x2 x3 x4 x5 b s k * cInv) (ht : ∀ k, sA x0 x1 x2 x3 x4 x5 b s k * cInv < pw 253)
include h0 ht

/-- The scale is the kernel's. -/
theorem r64 (k : Fin 80) : val_main_v64 (F := Ideal) x0 x1 x2 x3 x4 x5 (ix3 b s k) = kScale (sA x0 x1 x2 x3 x4 x5 b s k) := by
  rw [v64_eq, r46 x0 x1 x2 x3 x4 x5 b s hR, kScale_eq _ (h0 k) (ht k)]

/-- The code is the kernel's. -/
theorem r72 (c : Fin 10240) : val_main_v72 (F := Ideal) x0 x1 x2 x3 x4 x5 (ix3 b s c) = sQ x0 x1 x2 x3 x4 x5 b s c := by
  rw [v72_at, v70_at, r64 x0 x1 x2 x3 x4 x5 b s hR h0 ht, r44 x0 x1 x2 x3 x4 x5 b s hR _ _ c (Nat.div_add_mod c.val 128).symm, one_bits, ← kInv_eq _ (h0 _) (ht _)]
  rfl

end Cert.ReferenceIdeal.Hand
-- ==== Proof.Final.lean ====
/-
  What the precondition says of the argument arrays, and that under it the kernel's four result arrays are the
  reference's.
-/
module

public import proofs.«01_k».proof.Proof.Ref
public import proofs.«01_k».proof.Proof.Bounds
public import proofs.«01_k».proof.Proof.Values
public import proofs.«01_k».proof.Proof.Gen.Pre_tame
public import Idealize.ShloMosaic.Lib.ReduceAll
public import Idealize.ShloMosaic.Lib.Affine

@[expose] public section

noncomputable section

namespace Cert.KernelIdeal.Hand

open Cert.KernelIdeal
open Idealize.ShloMosaic Idealize.ShloMosaic.TcCoe

/-- A finite number no larger than `2 ^ 50`. -/
def Small (x : EReal) : Prop := ∃ r : ℝ, x = (r : EReal) ∧ |r| ≤ 2 ^ 50

/-- The precondition's bound. -/
theorem bound_bits : Ideal.ofBits .f32 0x58800000#32 = ((2 ^ 50 : ℝ) : EReal) := by
  refine (ofBits_pw 177 (by norm_num)).trans ?_
  rw [pw_pos (by norm_num)]
  norm_num

/-- A magnitude below the bound makes a number small. -/
theorem small_of_le (x : EReal) (h : max x (-x) ≤ ((2 ^ 50 : ℝ) : EReal)) : Small x := by
  induction x with
  | bot => exact absurd ((le_max_right (⊥ : EReal) (-⊥)).trans h) (not_le.2 (EReal.coe_lt_top _))
  | top => exact absurd ((le_max_left (⊤ : EReal) (-⊤)).trans h) (not_le.2 (EReal.coe_lt_top _))
  | coe r =>
    refine ⟨r, rfl, ?_⟩
    rw [← EReal.coe_neg] at h
    have h1 := EReal.coe_le_coe_iff.1 ((le_max_left _ _).trans h)
    have h2 := EReal.coe_le_coe_iff.1 ((le_max_right _ _).trans h)
    exact abs_le.2 ⟨by linarith, h1⟩

/-- The comparison with the bound, read. -/
theorem small_of_cmp (φ : FTy) (x y : EReal) (hy : y = Ideal.ofBits .f32 0x58800000#32)
    (h : FloatOps.cmpf (F := Ideal) (φ := φ) .ole (FloatOps.hostAbsf (F := Ideal) (φ := φ) x) y = 1#1) : Small x := by
  subst hy
  refine small_of_le x ?_
  rw [← bound_bits]
  by_contra hn
  have : BitVec.ofBool (decide (max x (-x) ≤ Ideal.ofBits .f32 0x58800000#32)) = 1#1 := h
  rw [decide_eq_false hn] at this
  exact absurd this (by decide)

/-- The comparison with zero, read. -/
theorem nonneg_of_cmp (x : EReal) (h : FloatOps.cmpf (F := Ideal) (φ := .f32) .oge x (Ideal.ofBits .f32 0x00000000#32) = 1#1) : 0 ≤ x := by
  rw [cmp_oge, zero_bits] at h
  by_contra hn
  rw [if_neg hn] at h
  exact absurd h (by decide)

instance : Subsingleton Cert.Pre_tame.S_.Idx := ⟨fun a b => funext fun i => i.elim0⟩

variable (A0 : Vec Ideal S3x640x10240 .bf16) (A1 : Vec Ideal S1 .f32) (A2 A3 : Vec Ideal S1x3x640 .f32)
  (A4 A5 : Vec Ideal S10240 .f32)

/-- The precondition, decoded. -/
structure Tame : Prop where
  s0 : ∀ i, Small (A0 i)
  s1 : ∀ i, Small (A1 i)
  s2 : ∀ i, Small (A2 i)
  s3 : ∀ i, Small (A3 i)
  s4 : ∀ i, Small (A4 i)
  s5 : ∀ i, Small (A5 i)
  n1 : ∀ i, 0 ≤ A1 i
  n3 : ∀ i, 0 ≤ A3 i

/-- The precondition gives its decoded form. -/
theorem tame_of_pre (h : Cert.Pre_tame.fn (F := Ideal) A0 A1 A2 A3 A4 A5 = fun _ => 1#1) : Tame A0 A1 A2 A3 A4 A5 := by
  have e := congrFun h ix0
  dsimp only [Cert.Pre_tame.fn, Cert.Pre_tame.fn_part1, Cert.Pre_tame.fn_part2] at e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact {
    s0 := fun i => small_of_cmp .f32 _ _ rfl (Host.reduce_andi_all _ _ _ _ _ h0 i)
    s1 := fun i => small_of_cmp .f32 _ _ rfl (Host.reduce_andi_all _ _ _ _ _ h1 i)
    s2 := fun i => small_of_cmp .f32 _ _ rfl (Host.reduce_andi_all _ _ _ _ _ h2 i)
    s3 := fun i => small_of_cmp .f32 _ _ rfl (Host.reduce_andi_all _ _ _ _ _ h3 i)
    s4 := fun i => small_of_cmp .f32 _ _ rfl (Host.reduce_andi_all _ _ _ _ _ h4 i)
    s5 := fun i => small_of_cmp .f32 _ _ rfl (Host.reduce_andi_all _ _ _ _ _ h5 i)
    n1 := fun i => nonneg_of_cmp _ (Host.reduce_andi_all _ _ _ _ _ h6 i)
    n3 := fun i => nonneg_of_cmp _ (Host.reduce_andi_all _ _ _ _ _ h7 i) }

open Cert.ReferenceIdeal.Hand (rR)

/-- What one row of tame arguments gives. -/
theorem row_facts (t : Tame A0 A1 A2 A3 A4 A5) (b : Fin 3) (s : Fin 640) :
    rR A0 A1 A2 A3 b s = sR A0 A1 A2 A3 b s ∧
      ∀ k, 0 ≤ sA A0 A1 A2 A3 A4 A5 b s k * cInv ∧ sA A0 A1 A2 A3 A4 A5 b s k * cInv < pw 253 := by
  choose x hx hx' using fun k : Fin 10240 => t.s0 (ix3 b s k)
  choose g hg hg' using fun k : Fin 10240 => t.s4 (ix1 k)
  choose w hw hw' using fun k : Fin 10240 => t.s5 (ix1 k)
  obtain ⟨n, hn, -⟩ := t.s1 (ix1 0)
  obtain ⟨p, hp, hp'⟩ := t.s2 (ix3 0 b s)
  obtain ⟨q, hq, -⟩ := t.s3 (ix3 0 b s)
  have n0 : 0 ≤ n := EReal.coe_nonneg.1 (hn ▸ t.n1 (ix1 0))
  have q0 : 0 ≤ q := EReal.coe_nonneg.1 (hq ▸ t.n3 (ix3 0 b s))
  have ex : (fun k => A0 (ix3 b s k)) = fun k => (x k : EReal) := funext hx
  have eM : sM A0 A1 A2 b s = ((meanR x n p : ℝ) : EReal) := by
    rw [sM, ex, hn, hp, kMean_real x n p n0]
  have eR : sR A0 A1 A2 A3 b s = ((rstdR x n p q : ℝ) : EReal) := by
    rw [sR, ex, hn, hp, hq, kRstd_eq x n p q n0 q0]
  refine ⟨?_, fun k => ?_⟩
  · rw [rR, sR, ex, hn, hp, hq, rRstd_real x n p q n0, kRstd_real x n p q n0]
  · have ey : ∀ c : Fin 10240, sY A0 A1 A2 A3 A4 A5 b s c =
        (((x c - meanR x n p) * rstdR x n p q * g c + w c : ℝ) : EReal) := fun c => by
      rw [sY, eM, eR, hx, hg, hw, kY, ← EReal.coe_sub, ← EReal.coe_mul, ← EReal.coe_mul, ← EReal.coe_add]
    rw [sA]
    simp only [ey]
    exact kA_bounds _ fun j => y_le _ _ _ _ _ (hx' _) (mean_le x n p hx' hp' n0) (rstd_le x n p q n0 q0) (hg' _) (hw' _)

section Arrays

open Cert.ReferenceIdeal.Read Cert.ReferenceIdeal.Hand
open Cert.KernelIdeal.Gen

variable (m : (ℓ : Loc nD τ sig) → Buf (Elt Ideal) ℓ) (c : Dev nD)

/-- The kernel's result arrays are the reference's terms of the same arguments. -/
theorem arrays (a0 : Vec Ideal S3x640x10240 .bf16) (a1 : Vec Ideal S1 .f32) (a2 a3 : Vec Ideal S1x3x640 .f32)
    (a4 a5 : Vec Ideal S10240 .f32)
    (e0 : a0 = m ((c : Thread nD τ).loc main_arg0)) (e1 : a1 = m ((c : Thread nD τ).loc main_arg1))
    (e2 : a2 = m ((c : Thread nD τ).loc main_arg2)) (e3 : a3 = m ((c : Thread nD τ).loc main_arg3))
    (e4 : a4 = m ((c : Thread nD τ).loc main_arg4)) (e5 : a5 = m ((c : Thread nD τ).loc main_arg5))
    (t : Tame a0 a1 a2 a3 a4 a5) :
    val_main_v72 (F := Ideal) a0 a1 a2 a3 a4 a5 = Value.G6 m c ∧
    val_main_v64 (F := Ideal) a0 a1 a2 a3 a4 a5 = Value.G7 m c ∧
    val_main_v18 (F := Ideal) a0 a1 a2 = Value.G8 m c ∧
    val_main_v30 (F := Ideal) a0 a1 a2 a3 = Value.G9 m c := by
  subst e0 e1 e2 e3 e4 e5
  refine ⟨funext fun i => ?_, funext fun i => ?_, funext fun i => ?_, funext fun i => ?_⟩
  · obtain ⟨b, s, k, rfl⟩ : ∃ b s k, i = ix3 b s k := ⟨i 0, i 1, i 2, eq_ix3 i⟩
    have f := row_facts _ _ _ _ _ _ t b s
    exact (r72 _ _ _ _ _ _ b s f.1 (fun k => (f.2 k).1) (fun k => (f.2 k).2) k).trans (G6_at m c b s k).symm
  · obtain ⟨b, s, k, rfl⟩ : ∃ b s k, i = ix3 b s k := ⟨i 0, i 1, i 2, eq_ix3 i⟩
    have f := row_facts _ _ _ _ _ _ t b s
    exact (r64 _ _ _ _ _ _ b s f.1 (fun k => (f.2 k).1) (fun k => (f.2 k).2) k).trans (G7_at m c b s k).symm
  · obtain ⟨b, s, rfl⟩ : ∃ b s, i = ix2 b s := ⟨i 0, i 1, eq_ix2 i⟩
    exact (r18 _ _ _ b s).trans (G8_at m c b s).symm
  · obtain ⟨b, s, rfl⟩ : ∃ b s, i = ix2 b s := ⟨i 0, i 1, eq_ix2 i⟩
    have f := row_facts _ _ _ _ _ _ t b s
    exact ((r30 _ _ _ _ b s).trans f.1).trans (G9_at m c b s).symm

end Arrays

end Cert.KernelIdeal.Hand
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_tame
public import proofs.«01_k».proof.Proof.Final
public import Idealize.ShloMosaic.Adequacy
public import Idealize.ShloMosaic.Lib.Quiescent
public import Idealize.ShloMosaic.Init

@[expose] public section

noncomputable section

namespace Cert.Proof

open Idealize.ShloMosaic Idealize.SL.Sem

/-- The kernel run and the reference run from the same tame arguments end with equal results. -/
theorem algebraic : Cert.algebraic_KernelIdeal_ReferenceIdeal_pre_tame := by
  intro m g m' g' hpre hargs
  refine ⟨Cert.KernelIdeal.Value.G6 m, Cert.KernelIdeal.Value.G7 m, Cert.KernelIdeal.Value.G8 m, Cert.KernelIdeal.Value.G9 m,
    Cert.KernelIdeal.Value.run m g, ?_⟩
  refine (θ_run _ _ _).mono (fun r h c => ?_) (Cert.ReferenceIdeal.Value.run (F := Ideal) m' g')
  obtain ⟨h72, h64, h18, h30, ha⟩ := h c
  obtain ⟨e0, e1, e2, e3, e4, e5⟩ := hargs c
  have t := Cert.KernelIdeal.Hand.tame_of_pre _ _ _ _ _ _ (hpre c)
  rw [← e0, ← e1, ← e2, ← e3, ← e4, ← e5] at t
  obtain ⟨r72, r64, r18, r30⟩ := Cert.KernelIdeal.Hand.arrays m c _ _ _ _ _ _ e0 e1 e2 e3 e4 e5 t
  exact ⟨(h72.trans (Cert.ReferenceIdeal.Read.val_main_v72_eq m' c)).trans r72,
    (h64.trans (Cert.ReferenceIdeal.Read.val_main_v64_eq m' c)).trans r64,
    (h18.trans (Cert.ReferenceIdeal.Read.val_main_v18_eq _ _ _)).trans r18,
    (h30.trans (Cert.ReferenceIdeal.Read.val_main_v30_eq _ _ _ _)).trans r30, ha⟩

/-- The reference terminates, leaves its arguments alone, and declares no semaphore. -/
theorem frame_ref : Cert.quiescent_ReferenceIdeal := fun m g _ =>
  (θ_run _ _ _).mono (fun r h => ⟨fun c => (h c).2.2.2.2, sem_eq_zero_of_no_sems (by decide) r.2⟩)
    (Cert.ReferenceIdeal.Value.run (F := Ideal) m g)

theorem claim : Cert.Claim :=
  ⟨Cert.Kernel.Gen.facts, Cert.KernelIdeal.Gen.facts, Cert.ReferenceIdeal.Gen.facts, Cert.Pre_tame.Gen.facts,
    fun m g _ => Cert.Kernel.Gen.frame m g, fun m g _ => Cert.KernelIdeal.Gen.frame m g, fun m g _ => Cert.KernelIdeal.Gen.frame m g,
    frame_ref, fun m g _ => frame_ref m g trivial, trivial, algebraic⟩

end Cert.Proof

end
